-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_zero [hPre_indices_zero : Cert.Pre_indices_zero.Facts] (m : (ℓ : Loc Cert.KernelIdeal.nD Cert.KernelIdeal.τ Cert.KernelIdeal.sig) → Buf (Elt Ideal) ℓ) : Prop :=
  ∀ c : Dev Cert.KernelIdeal.nD,
    (Cert.Pre_indices_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_zero [hPre_indices_zero : Cert.Pre_indices_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_indices_zero [hKernelIdeal : Cert.KernelIdeal.Facts] [hPre_indices_zero : Cert.Pre_indices_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_indices_zero [hReferenceIdeal : Cert.ReferenceIdeal.Facts] [hPre_indices_zero : Cert.Pre_indices_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_indices_zero [hKernelIdeal : Cert.KernelIdeal.Facts] [hReferenceIdeal : Cert.ReferenceIdeal.Facts] [hPre_indices_zero : Cert.Pre_indices_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_indices_zero : Cert.Pre_indices_zero.Facts),
    quiescent_Kernel (hKernel := hKernel)
    ∧ quiescent_KernelIdeal (hKernelIdeal := hKernelIdeal)
    ∧ quiescent_KernelIdeal_pre_indices_zero (hKernelIdeal := hKernelIdeal) (hPre_indices_zero := hPre_indices_zero)
    ∧ quiescent_ReferenceIdeal (hReferenceIdeal := hReferenceIdeal)
    ∧ quiescent_ReferenceIdeal_pre_indices_zero (hReferenceIdeal := hReferenceIdeal) (hPre_indices_zero := hPre_indices_zero)
    ∧ preserves_Kernel_KernelIdeal
    ∧ algebraic_KernelIdeal_ReferenceIdeal_pre_indices_zero (hKernelIdeal := hKernelIdeal) (hReferenceIdeal := hReferenceIdeal) (hPre_indices_zero := hPre_indices_zero)
-- ==== Pre_indices_zero.lean ====
abbrev S4096x13 : Shape := ⟨2, ![4096, 13]⟩
abbrev S4096x26 : Shape := ⟨2, ![4096, 26]⟩
abbrev S26x1x128 : Shape := ⟨3, ![26, 1, 128]⟩
abbrev S3341x1024 : Shape := ⟨2, ![3341, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S4096x26 : S_.BroadcastsInDim S4096x26 (![] : Fin 0 → Fin S4096x26.rank)

variable [Facts]

def fn {F : FTy → Type} [FloatOps F] (main_arg0 : FVec F S4096x13 .f32) (main_arg1 : IVec S4096x26 32) (main_arg2 : FVec F S26x1x128 .f32) (main_arg3 : FVec F S3341x1024 .f32) (main_arg4 : FVec F S1024 .f32) (main_arg5 : FVec F S1024x512 .f32) (main_arg6 : FVec F S512 .f32) (main_arg7 : FVec F S512x256 .f32) (main_arg8 : FVec F S256 .f32) (main_arg9 : FVec F S256x1 .f32) (main_arg10 : FVec F S1 .f32) : IVec S4096x26 1 :=
  let main_c : IVec S_ 32 := constantI S_ 32 0#32
  let main_v0 : IVec S4096x26 32 := broadcastInDim S4096x26 ![] bcast_S_S4096x26 main_c
  let main_v1 : IVec S4096x26 1 := cmpi .eq main_arg1 main_v0
  main_v1
-- ==== Kernel.lean ====
abbrev S4096x13 : Shape := ⟨2, ![4096, 13]⟩
abbrev S4096x26 : Shape := ⟨2, ![4096, 26]⟩
abbrev S26x1x128 : Shape := ⟨3, ![26, 1, 128]⟩
abbrev S3341x1024 : Shape := ⟨2, ![3341, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S13x4096 : Shape := ⟨2, ![13, 4096]⟩
abbrev S1x1024 : Shape := ⟨2, ![1, 1024]⟩
abbrev S1x512 : Shape := ⟨2, ![1, 512]⟩
abbrev S1x256 : Shape := ⟨2, ![1, 256]⟩
abbrev S1x1 : Shape := ⟨2, ![1, 1]⟩
abbrev S4096 : Shape := ⟨1, ![4096]⟩
abbrev S16x1024 : Shape := ⟨2, ![16, 1024]⟩
abbrev S1024x4096 : Shape := ⟨2, ![1024, 4096]⟩
abbrev S1024x1 : Shape := ⟨2, ![1024, 1]⟩
abbrev S_ : Shape := ⟨0, ![]⟩
abbrev S840x1024 : Shape := ⟨2, ![840, 1024]⟩
abbrev S816x1024 : Shape := ⟨2, ![816, 1024]⟩
abbrev S13x1024 : Shape := ⟨2, ![13, 1024]⟩
abbrev S5x1024 : Shape := ⟨2, ![5, 1024]⟩
abbrev S1x13 : Shape := ⟨2, ![1, 13]⟩
abbrev S1x1x128 : Shape := ⟨3, ![1, 1, 128]⟩
abbrev S1x128 : Shape := ⟨2, ![1, 128]⟩
abbrev S1x3341 : Shape := ⟨2, ![1, 3341]⟩
abbrev S512x1 : Shape := ⟨2, ![512, 1]⟩
abbrev S512x4096 : Shape := ⟨2, ![512, 4096]⟩
abbrev S256x4096 : Shape := ⟨2, ![256, 4096]⟩
abbrev S1x4096 : Shape := ⟨2, ![1, 4096]⟩

abbrev nBuf : Space → Nat
  | .hbm => 18
  | .vmem => 17
  | .smem => 0
  | _ => 0

abbrev bufTy : (tb : Table) → Fin (tcTables nBuf tb) → BufTy
  | .hbm, ⟨0, _⟩ => ⟨S4096x13, .f32⟩
  | .hbm, ⟨1, _⟩ => ⟨S4096x26, .i32⟩
  | .hbm, ⟨2, _⟩ => ⟨S26x1x128, .f32⟩
  | .hbm, ⟨3, _⟩ => ⟨S3341x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S13x4096, .f32⟩
  | .hbm, ⟨12, _⟩ => ⟨S1x1024, .f32⟩
  | .hbm, ⟨13, _⟩ => ⟨S1x512, .f32⟩
  | .hbm, ⟨14, _⟩ => ⟨S1x256, .f32⟩
  | .hbm, ⟨15, _⟩ => ⟨S1x256, .f32⟩
  | .hbm, ⟨16, _⟩ => ⟨S1x1, .f32⟩
  | .hbm, ⟨17, _⟩ => ⟨S4096, .f32⟩
  | .local _ .vmem, ⟨0, _⟩ => ⟨S13x4096, .f32⟩
  | .local _ .vmem, ⟨1, _⟩ => ⟨S26x1x128, .f32⟩
  | .local _ .vmem, ⟨2, _⟩ => ⟨S16x1024, .f32⟩
  | .local _ .vmem, ⟨3, _⟩ => ⟨S1x1024, .f32⟩
  | .local _ .vmem, ⟨4, _⟩ => ⟨S1024x512, .f32⟩
  | .local _ .vmem, ⟨5, _⟩ => ⟨S1x512, .f32⟩
  | .local _ .vmem, ⟨6, _⟩ => ⟨S512x256, .f32⟩
  | .local _ .vmem, ⟨7, _⟩ => ⟨S1x256, .f32⟩
  | .local _ .vmem, ⟨8, _⟩ => ⟨S1x256, .f32⟩
  | .local _ .vmem, ⟨9, _⟩ => ⟨S1x1, .f32⟩
  | .local _ .vmem, ⟨10, _⟩ => ⟨S4096, .f32⟩
  | .local _ .vmem, ⟨11, _⟩ => ⟨S1024x4096, .f32⟩
  | .local _ .vmem, ⟨12, _⟩ => ⟨S1024x1, .f32⟩
  | .local _ .vmem, ⟨13, _⟩ => ⟨S1024x512, .bf16⟩
  | .local _ .vmem, ⟨14, _⟩ => ⟨S512x256, .bf16⟩
  | .local _ .vmem, ⟨15, _⟩ => ⟨S1x256, .bf16⟩
  | .local _ .vmem, ⟨16, _⟩ => ⟨S3341x1024, .f32⟩
  | _, _ => ⟨S4096x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![2], ![false]⟩

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S13x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S26x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S4096x13 : Shape := ⟨2, ![4096, 13]⟩
abbrev S4096x26 : Shape := ⟨2, ![4096, 26]⟩
abbrev S26x1x128 : Shape := ⟨3, ![26, 1, 128]⟩
abbrev S3341x1024 : Shape := ⟨2, ![3341, 1024]⟩
abbrev S1024 : Shape := ⟨1, ![1024]⟩
abbrev S1024x512 : Shape := ⟨2, ![1024, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩
abbrev S26x4096 : Shape := ⟨2, ![26, 4096]⟩
abbrev S26x4096x1 : Shape := ⟨3, ![26, 4096, 1]⟩
abbrev S1x1x1 : Shape := ⟨3, ![1, 1, 1]⟩
abbrev S26x4096x128 : Shape := ⟨3, ![26, 4096, 128]⟩
abbrev S4096x26x128 : Shape := ⟨3, ![4096, 26, 128]⟩
abbrev S4096x3328 : Shape := ⟨2, ![4096, 3328]⟩
abbrev S4096x3341 : Shape := ⟨2, ![4096, 3341]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩
abbrev S4096x256 : Shape := ⟨2, ![4096, 256]⟩
abbrev S1x256 : Shape := ⟨2, ![1, 256]⟩
abbrev S4096x1 : Shape := ⟨2, ![4096, 1]⟩
abbrev S1x1 : Shape := ⟨2, ![1, 1]⟩
abbrev S4096 : Shape := ⟨1, ![4096]⟩

abbrev nBuf : Space → Nat
  | .hbm => 64
  | .vmem => 0
  | .smem => 0
  | _ => 0

abbrev bufTy : (tb : Table) → Fin (tcTables nBuf tb) → BufTy
  | .hbm, ⟨0, _⟩ => ⟨S4096x13, .f32⟩
  | .hbm, ⟨1, _⟩ => ⟨S4096x26, .i32⟩
  | .hbm, ⟨2, _⟩ => ⟨S26x1x128, .f32⟩
  | .hbm, ⟨3, _⟩ => ⟨S3341x1024, .f32⟩
  | .hbm, ⟨4, _⟩ => ⟨S1024, .f32⟩
  | .hbm, ⟨5, _⟩ => ⟨S1024x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S_, .i32⟩
  | .hbm, ⟨12, _⟩ => ⟨S4096x26, .i32⟩
  | .hbm, ⟨13, _⟩ => ⟨S4096x26, .i1⟩
  | .hbm, ⟨14, _⟩ => ⟨S_, .i32⟩
  | .hbm, ⟨15, _⟩ => ⟨S4096x26, .i32⟩
  | .hbm, ⟨16, _⟩ => ⟨S4096x26, .i32⟩
  | .hbm, ⟨17, _⟩ => ⟨S4096x26, .i32⟩
  | .hbm, ⟨18, _⟩ => ⟨S26x4096, .i32⟩
  | .hbm, ⟨19, _⟩ => ⟨S26x4096x1, .i32⟩
  | .hbm, ⟨20, _⟩ => ⟨S1, .i32⟩
  | .hbm, ⟨21, _⟩ => ⟨S_, .i32⟩
  | .hbm, ⟨22, _⟩ => ⟨S26x4096x1, .i32⟩
  | .hbm, ⟨23, _⟩ => ⟨S26x4096x1, .i1⟩
  | .hbm, ⟨24, _⟩ => ⟨S1x1x1, .i32⟩
  | .hbm, ⟨25, _⟩ => ⟨S26x4096x1, .i32⟩
  | .hbm, ⟨26, _⟩ => ⟨S26x4096x1, .i1⟩
  | .hbm, ⟨27, _⟩ => ⟨S26x4096x1, .i1⟩
  | .hbm, ⟨28, _⟩ => ⟨S_, .i1⟩
  | .hbm, ⟨29, _⟩ => ⟨S26x4096, .i1⟩
  | .hbm, ⟨30, _⟩ => ⟨S26x4096x128, .f32⟩
  | .hbm, ⟨31, _⟩ => ⟨S26x4096x128, .i1⟩
  | .hbm, ⟨32, _⟩ => ⟨S_, .f32⟩
  | .hbm, ⟨33, _⟩ => ⟨S26x4096x128, .f32⟩
  | .hbm, ⟨34, _⟩ => ⟨S26x4096x128, .f32⟩
  | .hbm, ⟨35, _⟩ => ⟨S4096x26x128, .f32⟩
  | .hbm, ⟨36, _⟩ => ⟨S4096x3328, .f32⟩
  | .hbm, ⟨37, _⟩ => ⟨S4096x3341, .f32⟩
  | .hbm, ⟨38, _⟩ => ⟨S4096x1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x512, .f32⟩
  | .hbm, ⟨46, _⟩ => ⟨S1x512, .f32⟩
  | .hbm, ⟨47, _⟩ => ⟨S4096x512, .f32⟩
  | .hbm, ⟨48, _⟩ => ⟨S4096x512, .f32⟩
  | .hbm, ⟨49, _⟩ => ⟨S_, .f32⟩
  | .hbm, ⟨50, _⟩ => ⟨S4096x512, .f32⟩
  | .hbm, ⟨51, _⟩ => ⟨S4096x512, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S4096x1, .f32⟩
  | .hbm, ⟨60, _⟩ => ⟨S1x1, .f32⟩
  | .hbm, ⟨61, _⟩ => ⟨S4096x1, .f32⟩
  | .hbm, ⟨62, _⟩ => ⟨S4096x1, .f32⟩
  | .hbm, ⟨63, _⟩ => ⟨S4096, .f32⟩
  | _, _ => ⟨S4096x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_c_1 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_c_3 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_cst : Ref sig .tc := ⟨.hbm, 32, rfl⟩
abbrev main_call0_v16 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_call1_cst : Ref sig .tc := ⟨.hbm, 42, rfl⟩
abbrev main_call1_v0 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call2_cst : Ref sig .tc := ⟨.hbm, 49, rfl⟩
abbrev main_call2_v0 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_call3_cst : Ref sig .tc := ⟨.hbm, 56, rfl⟩
abbrev main_call3_v0 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩

abbrev nD : Nat := 1
abbrev τ : Topo := Topo.v7x

variable {F : FTy → Type} [FloatOps F]
-- ==== Proof.KernelIdeal.Body0.lean ====
/-
  Hand-written. The kernel's first grid point: it starts the four copies of `W0`'s row chunks into VMEM on one DMA
  semaphore, leaves them in flight, and stores the numerical features' product with `W0`'s first 13 rows.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.MixedBatch
public import Idealize.ShloMosaic.Lib.Tactic
public import Idealize.ShloMosaic.Lib.WordCmp
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The proof's algebra: the pipeline's beside the transfers' counters. -/
local notation "𝕄" => MT nD τ sig Unit (Elt F) ℕ (Pipeline.UD sig nD τ) ℕ

/-- The kernel's own buffers: the product, the per-column offset, the three weights, the copy of `W0`. -/
abbrev sP : Memref sig .tc .vmem S1024x4096 .f32 := Memref.whole cc0_scratch0
abbrev sC0 : Memref sig .tc .vmem S1024x1 .f32 := Memref.whole cc0_scratch1
abbrev sW1 : Memref sig .tc .vmem S1024x512 .bf16 := Memref.whole cc0_scratch2
abbrev sW2 : Memref sig .tc .vmem S512x256 .bf16 := Memref.whole cc0_scratch3
abbrev sW3 : Memref sig .tc .vmem S1x256 .bf16 := Memref.whole cc0_scratch4
abbrev sW0 : Memref sig .tc .vmem S3341x1024 .f32 := Memref.whole cc0_scratch5
/-- `W0` where it lies in HBM. -/
abbrev hW0 : Memref sig .tc .hbm S3341x1024 .f32 := Memref.whole main_arg3

/-- The contents of a memref's buffer on core `c`. -/
abbrev Bf (c : Dev nD) {sp : Space} {S : Shape} {e : EltTy} (M : Memref sig .tc sp S e) : Type :=
  Buf (Elt F) (M.view.loc (c : Thread nD τ))
/-- A memref's own elements held at a share. -/
abbrev held (c : Dev nD) {sp : Space} {S : Shape} {e : EltTy} (M : Memref sig .tc sp S e) (q : PosShare TreeShare)
    (f : Bf (F := F) c M) : sProp 𝕄 :=
  M.view.loc (c : Thread nD τ) ↦[M.view.set]{q} f

/-- Rows `840 k` to `840 (k + 1)` of a buffer shaped as `W0`, and the two shorter pieces after them. -/
abbrev rows0 {sp : Space} (M : Memref sig .tc sp S3341x1024 .f32) : Memref sig .tc sp S840x1024 .f32 :=
  M.slice (Rect.unit (s := S3341x1024) ![0, 0] S840x1024.size inb_S3341x1024_S840x1024_0_0) (fun _ => rfl)
abbrev rows1 {sp : Space} (M : Memref sig .tc sp S3341x1024 .f32) : Memref sig .tc sp S840x1024 .f32 :=
  M.slice (Rect.unit (s := S3341x1024) ![840, 0] S840x1024.size inb_S3341x1024_S840x1024_840_0) (fun _ => rfl)
abbrev rows2 {sp : Space} (M : Memref sig .tc sp S3341x1024 .f32) : Memref sig .tc sp S840x1024 .f32 :=
  M.slice (Rect.unit (s := S3341x1024) ![1680, 0] S840x1024.size inb_S3341x1024_S840x1024_1680_0) (fun _ => rfl)
abbrev rows3 {sp : Space} (M : Memref sig .tc sp S3341x1024 .f32) : Memref sig .tc sp S816x1024 .f32 :=
  M.slice (Rect.unit (s := S3341x1024) ![2520, 0] S816x1024.size inb_S3341x1024_S816x1024_2520_0) (fun _ => rfl)
abbrev rows4 {sp : Space} (M : Memref sig .tc sp S3341x1024 .f32) : Memref sig .tc sp S5x1024 .f32 :=
  M.slice (Rect.unit (s := S3341x1024) ![3336, 0] S5x1024.size inb_S3341x1024_S5x1024_3336_0) (fun _ => rfl)

/-- What a copy of one row chunk leaves: the chunk of `w` written over `d`. -/
abbrev dlv (c : Dev nD) {S : Shape} (src : Memref sig .tc .hbm S .f32) (dst : Memref sig .tc .vmem S .f32)
    (q : PosShare TreeShare) (w : Bf (F := F) c src) (d : Bf (F := F) c dst) : sProp 𝕄 :=
  iprop(held c dst fullShare (dst.view.writes (Elt F) d [⟨Rect.whole _, ReadAs.same.apply (src.view.read (Elt F) w)⟩])
    ∗ held c src q w)

/-- The four copies' amounts in issue order, and their deliveries. -/
abbrev amts : Fin 4 → ℕ := ![107520, 107520, 107520, 104448]
def deliv (c : Dev nD) (q : PosShare TreeShare) (w : Bf (F := F) c hW0) (d : Bf (F := F) c sW0) : Fin 4 → sProp 𝕄
  | 0 => dlv c (rows0 hW0) (rows0 sW0) q w d
  | 1 => dlv c (rows1 hW0) (rows1 sW0) q w d
  | 2 => dlv c (rows2 hW0) (rows2 sW0) q w d
  | 3 => dlv c (rows3 hW0) (rows3 sW0) q w d
instance deliv_storable (c : Dev nD) (q : PosShare TreeShare) (w : Bf (F := F) c hW0) (d : Bf (F := F) c sW0) (t : Fin 4) :
    Storable (upEmb : UEmb _ 𝕄) (deliv c q w d t) := by
  fin_cases t <;> simp only [deliv] <;> infer_instance

/-- The batch of the four copies on the kernel's semaphore with all four issued and nothing collected. -/
abbrev inFlight (c : Dev nD) (q : PosShare TreeShare) (w : Bf (F := F) c hW0) (d : Bf (F := F) c sW0) : sProp 𝕄 :=
  Transfers.MixedBatch (Lvl := ℕ) (countersEmb (U := Pipeline.UD sig nD τ)) (c : Thread nD τ) (SemLoc.dma 11) () amts (deliv c q w d) 4 0

end Cert.KernelIdeal.Hand

end
-- ==== Proof.KernelIdeal.Run0.lean ====
/- Hand-written: the first grid point's run. -/
module

public import proofs.«01_k».proof.Proof.KernelIdeal.Body0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The numerical features' product as the first point stores it: of the features and `W0`'s first sixteen rows. -/
def pval (x1 : Vec F S13x4096 .f32) (x3 : Vec F S16x1024 .f32) : Vec F S1024x4096 .f32 :=
  k0_pay1 x1 (View.ld x3 (Rect.unit (s := S16x1024) ![0, 0] S13x1024.size inb_S16x1024_S13x1024_0_0))

/-- The first point's run: it reads the features and `W0`'s first rows, issues the four copies and stores the product. -/
theorem run0 (c : Dev nD) (i : grid0.Coords)
    (h1 : Scalar.cmpi .ne (Scalar.extui (Scalar.cmpi .eq (BitVec.ofNat 32 (i 0).val) 0#32) : BitVec 32) 0#32 = 1#1) (h2 : ¬ k0_cond2 i = 1#1)
    (arg1 : Memref sig .tc .vmem S13x4096 .f32) (harg1 : arg1.IsWhole) (arg2 : Memref sig .tc .vmem S26x1x128 .f32) (harg2 : arg2.IsWhole)
    (arg3 : Memref sig .tc .vmem S16x1024 .f32) (harg3 : arg3.IsWhole) (arg4 : Memref sig .tc .vmem S1x1024 .f32) (harg4 : arg4.IsWhole)
    (arg5 : Memref sig .tc .vmem S1024x512 .f32) (harg5 : arg5.IsWhole) (arg6 : Memref sig .tc .vmem S1x512 .f32) (harg6 : arg6.IsWhole)
    (arg7 : Memref sig .tc .vmem S512x256 .f32) (harg7 : arg7.IsWhole) (arg8 : Memref sig .tc .vmem S1x256 .f32) (harg8 : arg8.IsWhole)
    (arg9 : Memref sig .tc .vmem S1x256 .f32) (harg9 : arg9.IsWhole) (arg10 : Memref sig .tc .vmem S1x1 .f32) (harg10 : arg10.IsWhole)
    (arg12 : Memref sig .tc .vmem S4096 .f32) (harg12 : arg12.IsWhole)
    (q : PosShare TreeShare) (f1 : Bf (F := F) c arg1) (f3 : Bf (F := F) c arg3) (w : Bf (F := F) c hW0) (d : Bf (F := F) c sW0) (fP : Bf (F := F) c sP)
    (W : Waits sig Unit) (K : PUnit → sProp 𝕄) :
    iprop(held c arg1 fullShare f1 ∗ held c arg3 fullShare f3 ∗ held c sP fullShare fP
        ∗ held c (rows0 hW0) q w ∗ held c (rows1 hW0) q w ∗ held c (rows2 hW0) q w ∗ held c (rows3 hW0) q w
        ∗ held c (rows0 sW0) fullShare d ∗ held c (rows1 sW0) fullShare d ∗ held c (rows2 sW0) fullShare d ∗ held c (rows3 sW0) fullShare d
        ∗ semVal ((c : Thread nD τ), SemLoc.dma 11) 0 ∗ owes (c : Thread nD τ) 0 W
        ∗ (iprop(held c arg1 fullShare f1 ∗ held c arg3 fullShare f3 ∗ owns (c : Thread nD τ) sP fullShare (pval (arg1.view.read (Elt F) f1) (arg3.view.read (Elt F) f3))
            ∗ inFlight c q w d ∗ (∃ W', owes (c : Thread nD τ) 0 W')) -∗ K ⟨⟩))
      ⊢ wp frame (wpE (defs₀ (F := F)) Variants.none c none) Set.univ
          (cc0__mlp_kernel i arg1 harg1 arg2 harg2 arg3 harg3 arg4 harg4 arg5 harg5 arg6 harg6 arg7 harg7 arg8 harg8 arg9 harg9 arg10 harg10
            hW0 (Memref.isWhole_whole _) arg12 harg12 sP (Memref.isWhole_whole _) sC0 (Memref.isWhole_whole _) sW1 (Memref.isWhole_whole _)
            sW2 (Memref.isWhole_whole _) sW3 (Memref.isWhole_whole _) sW0 (Memref.isWhole_whole _) cc0_scratch6 cc0_scoped0) K := by
  simp only [cc0__mlp_kernel_eq_skeleton]; unfold cc0__mlp_kernel_skel
  unfold held
  iintro ⟨H1, H3, HP, HA0, HA1, HA2, HA3, HB0, HB1, HB2, HB3, Hq, HW, Hk⟩
  imod (Transfers.mixedBatch_alloc' (Lvl := ℕ) (countersEmb (U := Pipeline.UD sig nD τ)) (c : Thread nD τ) () amts
      (deliv c q w d) (sm := SemLoc.dma 11) (E := Set.univ)) $$ Hq with HB
  unfold deliv
  sl_exec
  sl_step
  iapply Hk
  isplitl [H1]; · iexact H1
  isplitl [H3]; · iexact H3
  isplitl [HP]
  · ihave HP := owns_intro (c : Thread nD τ) sP fullShare _ $$ HP
    rw [View.read_writes_full, View.readAt_full]
    iexact HP
  isplitl [HB]
  · unfold inFlight deliv; iexact HB
  · iexists _; iexact HW

end Cert.KernelIdeal.Hand

end
-- ==== Proof.KernelIdeal.Pieces.lean ====
/- Hand-written: the copy of `W0` held by its five row pieces, and put together again. -/
module

public import proofs.«01_k».proof.Proof.KernelIdeal.Body0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- The five row pieces of a buffer shaped as `W0`, as boxes. -/
abbrev box0 : Rect S3341x1024 := Rect.unit (s := S3341x1024) ![0, 0] S840x1024.size inb_S3341x1024_S840x1024_0_0
abbrev box1 : Rect S3341x1024 := Rect.unit (s := S3341x1024) ![840, 0] S840x1024.size inb_S3341x1024_S840x1024_840_0
abbrev box2 : Rect S3341x1024 := Rect.unit (s := S3341x1024) ![1680, 0] S840x1024.size inb_S3341x1024_S840x1024_1680_0
abbrev box3 : Rect S3341x1024 := Rect.unit (s := S3341x1024) ![2520, 0] S816x1024.size inb_S3341x1024_S816x1024_2520_0
abbrev box4 : Rect S3341x1024 := Rect.unit (s := S3341x1024) ![3336, 0] S5x1024.size inb_S3341x1024_S5x1024_3336_0

/-- Membership of a piece of `n` rows from row `a` on is a condition on the row alone. -/
theorem mem_box {a n : ℕ} (inb : ∀ x, (![a, 0] : Fin 2 → ℕ) x + (![n, 1024] : Fin 2 → ℕ) x ≤ S3341x1024.size x) (y : S3341x1024.Idx) :
    y ∈ (Rect.unit (s := S3341x1024) ![a, 0] ![n, 1024] inb).set ↔ a ≤ (y 0).val ∧ (y 0).val < a + n := by
  rw [Rect.mem_set_unit]
  constructor
  · intro h; exact h 0
  · intro h x
    have h1 : (y 1).val < 1024 := (y 1).isLt
    match x with
    | 0 => exact h
    | 1 => exact ⟨Nat.zero_le _, by simpa using h1⟩

/-- The five pieces are all of the rows. -/
theorem boxes_univ : (Finset.univ : Finset S3341x1024.Idx) = box0.set ∪ (box1.set ∪ (box2.set ∪ (box3.set ∪ box4.set))) := by
  ext y
  have h : (y 0).val < 3341 := (y 0).isLt
  simp only [Finset.mem_univ, Finset.mem_union, true_iff]
  rw [mem_box, mem_box, mem_box, mem_box, mem_box]
  omega

/-- Pieces from different rows are disjoint. -/
theorem box_disj {a n b m : ℕ} (inb inb') (h : a + n ≤ b) :
    Disjoint (Rect.unit (s := S3341x1024) ![a, 0] ![n, 1024] inb).set (Rect.unit (s := S3341x1024) ![b, 0] ![m, 1024] inb').set := by
  rw [Finset.disjoint_left]
  intro y h1 h2
  rw [mem_box] at h1 h2
  omega

/-- A buffer shaped as `W0` held whole is its five row pieces held. -/
theorem held_rows (c : Dev nD) {sp : Space} (M : Memref sig .tc sp S3341x1024 .f32) (q : PosShare TreeShare) (f : Bf (F := F) c M) :
    (held c M q f : sProp 𝕄) = iprop(held c (rows0 M) q f ∗ held c (rows1 M) q f ∗ held c (rows2 M) q f ∗ held c (rows3 M) q f
      ∗ held c (rows4 M) q f) := by
  have hs : M.view.set = (M.view.slice box0).set ∪ ((M.view.slice box1).set ∪ ((M.view.slice box2).set
      ∪ ((M.view.slice box3).set ∪ (M.view.slice box4).set))) := by
    simp only [View.set_slice, ← Finset.map_union]
    rw [← boxes_univ]; rfl
  have d3 : Disjoint (M.view.slice box3).set (M.view.slice box4).set := by
    simp only [View.set_slice, Finset.disjoint_map]; exact box_disj _ _ (by decide)
  have d2 : Disjoint (M.view.slice box2).set ((M.view.slice box3).set ∪ (M.view.slice box4).set) := by
    simp only [View.set_slice, Finset.disjoint_map, Finset.disjoint_union_right]
    exact ⟨box_disj _ _ (by decide), box_disj _ _ (by decide)⟩
  have d1 : Disjoint (M.view.slice box1).set ((M.view.slice box2).set ∪ ((M.view.slice box3).set ∪ (M.view.slice box4).set)) := by
    simp only [View.set_slice, Finset.disjoint_map, Finset.disjoint_union_right]
    exact ⟨box_disj _ _ (by decide), box_disj _ _ (by decide), box_disj _ _ (by decide)⟩
  have d0 : Disjoint (M.view.slice box0).set ((M.view.slice box1).set ∪ ((M.view.slice box2).set ∪ ((M.view.slice box3).set ∪ (M.view.slice box4).set))) := by
    simp only [View.set_slice, Finset.disjoint_map, Finset.disjoint_union_right]
    exact ⟨box_disj _ _ (by decide), box_disj _ _ (by decide), box_disj _ _ (by decide), box_disj _ _ (by decide)⟩
  unfold held
  rw [hs]
  rw [BI.equiv_iff.mp ⟨(pointsTo_union d0).1, (pointsTo_union d0).2⟩, BI.equiv_iff.mp ⟨(pointsTo_union d1).1, (pointsTo_union d1).2⟩,
    BI.equiv_iff.mp ⟨(pointsTo_union d2).1, (pointsTo_union d2).2⟩, BI.equiv_iff.mp ⟨(pointsTo_union d3).1, (pointsTo_union d3).2⟩]

/-- A piece after its copy landed is the piece at `W0`'s contents, whatever it held before. -/
theorem landed (c : Dev nD) (r : Rect S3341x1024) (hr : ∀ a, r.stride a = 1) (w : Bf (F := F) c hW0) (d : Bf (F := F) c sW0)
    (p : r.shape.Idx → Elt F .f32) (hp : ∀ x, p x = w (r.emb x)) :
    (held c (sW0.slice r hr) fullShare ((sW0.slice r hr).view.writes (Elt F) d [⟨Rect.whole _, p⟩]) : sProp 𝕄)
      = held c (sW0.slice r hr) fullShare (w : S3341x1024.Idx → Elt F .f32) := by
  unfold held
  refine pointsTo_congr fun i hi => ?_
  obtain ⟨x, -, rfl⟩ := Finset.mem_map.mp hi
  have h := congrFun (View.read_writes_whole (Val := Elt F) (sW0.slice r hr).view d p) x
  rw [hp] at h
  exact h

end Cert.KernelIdeal.Hand

end
-- ==== Proof.KernelIdeal.Run1.lean ====
/- Hand-written: the second grid point's run. -/
module

public import proofs.«01_k».proof.Proof.KernelIdeal.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

/-- Row `k` of the embedding tables. -/
abbrev row (x2 : Vec F S26x1x128 .f32) (k : ℕ) (inb : ∀ a, (![k, 0, 0] : Fin 3 → ℕ) a + S1x1x128.size a ≤ S26x1x128.size a) : Vec F S1x1x128 .f32 :=
  View.ld x2 (Rect.unit (s := S26x1x128) ![k, 0, 0] S1x1x128.size inb)

/-- The embeddings' product with the copy of `W0`, before the bias. -/
def eval (x2 : Vec F S26x1x128 .f32) (w : Vec F S3341x1024 .f32) : FVec F S1x1024 .f32 :=
  k0_pay19 k0_pay3 (k0_pay4 (row x2 0 inb_S26x1x128_S1x1x128_0_0_0)) (k0_pay5 (row x2 1 inb_S26x1x128_S1x1x128_1_0_0)) (k0_pay6 (row x2 2 inb_S26x1x128_S1x1x128_2_0_0)) (k0_pay7 (row x2 3 inb_S26x1x128_S1x1x128_3_0_0)) (k0_pay8 (row x2 4 inb_S26x1x128_S1x1x128_4_0_0)) (k0_pay9 (row x2 5 inb_S26x1x128_S1x1x128_5_0_0)) (k0_pay10 (row x2 6 inb_S26x1x128_S1x1x128_6_0_0)) (k0_pay11 (row x2 7 inb_S26x1x128_S1x1x128_7_0_0)) (k0_pay12 (row x2 8 inb_S26x1x128_S1x1x128_8_0_0)) (k0_pay13 (row x2 9 inb_S26x1x128_S1x1x128_9_0_0)) (k0_pay14 (row x2 10 inb_S26x1x128_S1x1x128_10_0_0)) (k0_pay15 (row x2 11 inb_S26x1x128_S1x1x128_11_0_0)) (k0_pay16 (row x2 12 inb_S26x1x128_S1x1x128_12_0_0)) (k0_pay17 (row x2 13 inb_S26x1x128_S1x1x128_13_0_0)) (k0_pay18 (row x2 14 inb_S26x1x128_S1x1x128_14_0_0)) (row x2 15 inb_S26x1x128_S1x1x128_15_0_0) (row x2 16 inb_S26x1x128_S1x1x128_16_0_0) (row x2 17 inb_S26x1x128_S1x1x128_17_0_0) (row x2 18 inb_S26x1x128_S1x1x128_18_0_0) (row x2 19 inb_S26x1x128_S1x1x128_19_0_0) (row x2 20 inb_S26x1x128_S1x1x128_20_0_0) (row x2 21 inb_S26x1x128_S1x1x128_21_0_0) (row x2 22 inb_S26x1x128_S1x1x128_22_0_0) (row x2 23 inb_S26x1x128_S1x1x128_23_0_0) (row x2 24 inb_S26x1x128_S1x1x128_24_0_0) (row x2 25 inb_S26x1x128_S1x1x128_25_0_0) w

/-- The output as the second point stores it. -/
def oval (x2 : Vec F S26x1x128 .f32) (x4 : Vec F S1x1024 .f32) (x5 : Vec F S1024x512 .f32) (x6 : Vec F S1x512 .f32) (x7 : Vec F S512x256 .f32)
    (x8 : Vec F S1x256 .f32) (x9 : Vec F S1x256 .f32) (x10 : Vec F S1x1 .f32) (p : Vec F S1024x4096 .f32) (w : Vec F S3341x1024 .f32) : Vec F S4096 .f32 :=
  k0_pay2 (k0_pay24 x6) (k0_pay25 x8) p (k0_pay26 (k0_pay20 (eval x2 w) x4)) (k0_pay21 x5) (k0_pay22 x7) (k0_pay23 x9) x10

/-- The second point's run: it collects the four copies, fetches `W0`'s last five rows, and stores the output. -/
theorem run1 (c : Dev nD) (i : grid0.Coords)
    (h1 : ¬ Scalar.cmpi .ne (Scalar.extui (Scalar.cmpi .eq (BitVec.ofNat 32 (i 0).val) 0#32) : BitVec 32) 0#32 = 1#1) (h2 : k0_cond2 i = 1#1)
    (arg1 : Memref sig .tc .vmem S13x4096 .f32) (harg1 : arg1.IsWhole) (arg2 : Memref sig .tc .vmem S26x1x128 .f32) (harg2 : arg2.IsWhole)
    (arg3 : Memref sig .tc .vmem S16x1024 .f32) (harg3 : arg3.IsWhole) (arg4 : Memref sig .tc .vmem S1x1024 .f32) (harg4 : arg4.IsWhole)
    (arg5 : Memref sig .tc .vmem S1024x512 .f32) (harg5 : arg5.IsWhole) (arg6 : Memref sig .tc .vmem S1x512 .f32) (harg6 : arg6.IsWhole)
    (arg7 : Memref sig .tc .vmem S512x256 .f32) (harg7 : arg7.IsWhole) (arg8 : Memref sig .tc .vmem S1x256 .f32) (harg8 : arg8.IsWhole)
    (arg9 : Memref sig .tc .vmem S1x256 .f32) (harg9 : arg9.IsWhole) (arg10 : Memref sig .tc .vmem S1x1 .f32) (harg10 : arg10.IsWhole)
    (arg12 : Memref sig .tc .vmem S4096 .f32) (harg12 : arg12.IsWhole)
    (q : PosShare TreeShare) (f2 : Bf (F := F) c arg2) (f4 : Bf (F := F) c arg4) (f5 : Bf (F := F) c arg5) (f6 : Bf (F := F) c arg6)
    (f7 : Bf (F := F) c arg7) (f8 : Bf (F := F) c arg8) (f9 : Bf (F := F) c arg9) (f10 : Bf (F := F) c arg10) (f12 : Bf (F := F) c arg12)
    (w : Bf (F := F) c hW0) (d : Bf (F := F) c sW0) (fP : Bf (F := F) c sP) (fC : Bf (F := F) c sC0) (fW1 : Bf (F := F) c sW1)
    (fW2 : Bf (F := F) c sW2) (fW3 : Bf (F := F) c sW3)
    (W : Waits sig Unit) (K : PUnit → sProp 𝕄) :
    iprop(held c arg2 fullShare f2 ∗ held c arg4 fullShare f4 ∗ held c arg5 fullShare f5 ∗ held c arg6 fullShare f6 ∗ held c arg7 fullShare f7
        ∗ held c arg8 fullShare f8 ∗ held c arg9 fullShare f9 ∗ held c arg10 fullShare f10 ∗ held c arg12 fullShare f12
        ∗ held c sP fullShare fP ∗ held c sC0 fullShare fC ∗ held c sW1 fullShare fW1 ∗ held c sW2 fullShare fW2 ∗ held c sW3 fullShare fW3
        ∗ inFlight c q w d ∗ held c (rows4 hW0) q w ∗ held c (rows4 sW0) fullShare d
        ∗ semVal ((c : Thread nD τ), SemLoc.dma 12) 0 ∗ owes (c : Thread nD τ) 0 W
        ∗ (iprop(held c arg2 fullShare f2 ∗ held c arg4 fullShare f4 ∗ held c arg5 fullShare f5 ∗ held c arg6 fullShare f6
            ∗ held c arg7 fullShare f7 ∗ held c arg8 fullShare f8 ∗ held c arg9 fullShare f9 ∗ held c arg10 fullShare f10
            ∗ owns (c : Thread nD τ) arg12 fullShare (oval (arg2.view.read (Elt F) f2) (arg4.view.read (Elt F) f4) (arg5.view.read (Elt F) f5)
                (arg6.view.read (Elt F) f6) (arg7.view.read (Elt F) f7) (arg8.view.read (Elt F) f8) (arg9.view.read (Elt F) f9)
                (arg10.view.read (Elt F) f10) (sP.view.read (Elt F) fP) w)
            ∗ held c sP fullShare fP ∗ (∃ f, held c sC0 fullShare f) ∗ (∃ f, held c sW1 fullShare f) ∗ (∃ f, held c sW2 fullShare f)
            ∗ (∃ f, held c sW3 fullShare f) ∗ (∃ f, held c sW0 fullShare f)
            ∗ semVal ((c : Thread nD τ), SemLoc.dma 11) 0 ∗ semVal ((c : Thread nD τ), SemLoc.dma 12) 0
            ∗ (∃ W', owes (c : Thread nD τ) 0 W')) -∗ K ⟨⟩))
      ⊢ wp frame (wpE (defs₀ (F := F)) Variants.none c none) Set.univ
          (cc0__mlp_kernel i arg1 harg1 arg2 harg2 arg3 harg3 arg4 harg4 arg5 harg5 arg6 harg6 arg7 harg7 arg8 harg8 arg9 harg9 arg10 harg10
            hW0 (Memref.isWhole_whole _) arg12 harg12 sP (Memref.isWhole_whole _) sC0 (Memref.isWhole_whole _) sW1 (Memref.isWhole_whole _)
            sW2 (Memref.isWhole_whole _) sW3 (Memref.isWhole_whole _) sW0 (Memref.isWhole_whole _) cc0_scratch6 cc0_scoped0) K := by
  simp only [cc0__mlp_kernel_eq_skeleton]; unfold cc0__mlp_kernel_skel
  simp only [k0_part1_eq_skeleton, k0_part2_eq_skeleton, k0_part3_eq_skeleton, k0_part4_eq_skeleton]
  unfold inFlight deliv
  iintro ⟨H2, H4, H5, H6, H7, H8, H9, H10, H12, HP, HC, HW1, HW2, HW3, HB, HA4, HB4, Hs, HW, Hk⟩
  sl_exec
  ihave HD0 : held c (rows0 sW0) fullShare (w : S3341x1024.Idx → Elt F .f32) $$ [HB_dst0]
  · rw [← landed c box0 (fun _ => rfl) w d _ (fun _ => rfl)]; iexact HB_dst0
  ihave HD1 : held c (rows1 sW0) fullShare (w : S3341x1024.Idx → Elt F .f32) $$ [HB_dst1]
  · rw [← landed c box1 (fun _ => rfl) w d _ (fun _ => rfl)]; iexact HB_dst1
  ihave HD2 : held c (rows2 sW0) fullShare (w : S3341x1024.Idx → Elt F .f32) $$ [HB_dst2]
  · rw [← landed c box2 (fun _ => rfl) w d _ (fun _ => rfl)]; iexact HB_dst2
  ihave HD3 : held c (rows3 sW0) fullShare (w : S3341x1024.Idx → Elt F .f32) $$ [HB_dst3]
  · rw [← landed c box3 (fun _ => rfl) w d _ (fun _ => rfl)]; iexact HB_dst3
  ihave HB4 : held c (rows4 sW0) fullShare (w : S3341x1024.Idx → Elt F .f32) $$ [HB4]
  · rw [← landed c box4 (fun _ => rfl) w d _ (fun _ => rfl)]; iexact HB4
  ihave HS : held c sW0 fullShare (w : S3341x1024.Idx → Elt F .f32) $$ [HD0 HD1 HD2 HD3 HB4]
  · rw [held_rows c sW0]
    isplitl [HD0]; · iexact HD0
    isplitl [HD1]; · iexact HD1
    isplitl [HD2]; · iexact HD2
    isplitl [HD3]; · iexact HD3
    iexact HB4
  iclear HB_src0 HB_src1 HB_src2 HB_src3 HA4
  sl_exec
  sl_step
  iapply Hk
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H12]
  · ihave H12 := owns_intro (c : Thread nD τ) arg12 fullShare _ $$ H12
    rw [View.read_writes_full, View.readAt_full]
    have e : oval (arg2.view.read (Elt F) f2) (arg4.view.read (Elt F) f4) (arg5.view.read (Elt F) f5)
                (arg6.view.read (Elt F) f6) (arg7.view.read (Elt F) f7) (arg8.view.read (Elt F) f8) (arg9.view.read (Elt F) f9)
                (arg10.view.read (Elt F) f10) (sP.view.read (Elt F) fP) w = k0_pay2 (run1.sl.r_16 c arg6 f6) (run1.sl.r_17 c arg8 f8) (run1.sl.r_18 c fP)
            (run1.sl.r_19 c arg2 arg4 f2 f4 w) (run1.sl.v106 c arg5 f5) (run1.sl.v113 c arg7 f7)
            (run1.sl.v120 c arg9 f9) (arg10.view.read (Elt F) f10) := by
      unfold oval run1.sl.r_16 run1.sl.r_17 run1.sl.r_18 run1.sl.r_19 run1.sl.v106 run1.sl.v113 run1.sl.v120
      have hC : run1.sl.v100 c arg2 arg4 f2 f4 w = k0_pay20 (eval (arg2.view.read (Elt F) f2) w) (arg4.view.read (Elt F) f4) := by
        unfold run1.sl.v100 run1.sl.HC_1
        refine (View.readCov_full _ _ _ _ _).trans ?_
        have hE : run1.sl.r_15 c arg2 f2 w = eval (arg2.view.read (Elt F) f2) w := by
          unfold run1.sl.r_15 eval
          rw [View.readAt_full]
          rfl
        rw [hE, View.readAt_full]
      have h1 : sW1.view.readCov (run1.sl.HW1_1 c arg5 f5) (Rect.unit (s := S1024x512) ![0, 0] S1024x512.size inb_S1024x512_S1024x512_0_0).toLoadRect
          = k0_pay21 (arg5.view.read (Elt F) f5) := by
        unfold run1.sl.HW1_1
        exact (View.readCov_full _ _ _ _ _).trans (congrArg k0_pay21 (View.readAt_full _ _ _))
      have h2 : sW2.view.readCov (run1.sl.HW2_1 c arg7 f7) (Rect.unit (s := S512x256) ![0, 0] S512x256.size inb_S512x256_S512x256_0_0).toLoadRect
          = k0_pay22 (arg7.view.read (Elt F) f7) := by
        unfold run1.sl.HW2_1
        exact (View.readCov_full _ _ _ _ _).trans (congrArg k0_pay22 (View.readAt_full _ _ _))
      have h3 : sW3.view.readCov (run1.sl.HW3_1 c arg9 f9) (Rect.unit (s := S1x256) ![0, 0] S1x256.size inb_S1x256_S1x256_0_0).toLoadRect
          = k0_pay23 (arg9.view.read (Elt F) f9) := by
        unfold run1.sl.HW3_1
        exact (View.readCov_full _ _ _ _ _).trans (congrArg k0_pay23 (View.readAt_full _ _ _))
      rw [hC, View.readAt_full, View.readAt_full, View.readAt_full]
      exact (congr (congr (congrArg (k0_pay2 _ _ _ _) h1) h2) h3 |> fun h => congrFun h _).symm
    rw [e]; iexact H12
  isplitl [HP]; · iexact HP
  isplitl [HC]; · iexists _; iexact HC
  isplitl [HW1]; · iexists _; iexact HW1
  isplitl [HW2]; · iexists _; iexact HW2
  isplitl [HW3]; · iexists _; iexact HW3
  isplitl [HS]; · iexists _; iexact HS
  isplitl [HB]; · iexact HB
  isplitl [Hs]; · iexact Hs
  iexists _; iexact HW

end Cert.KernelIdeal.Hand

end
-- ==== Proof.KernelIdeal.Data.lean ====
/- Hand-written: the proof data of the launch and the body obligation at its two points. -/
module

public import proofs.«01_k».proof.Proof.KernelIdeal.Run0
public import proofs.«01_k».proof.Proof.KernelIdeal.Run1
public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- A whole buffer's memref held is the buffer held. -/
theorem held_whole (c : Dev nD) (b : Ref sig .tc) (q : PosShare TreeShare) (f : Buf (Elt F) ((c : Thread nD τ).loc b)) :
    (held c (Memref.whole b) q f : sProp 𝕄) = ((c : Thread nD τ).loc b) ↦{q} f := by
  unfold held; simp only [Memref.view_whole, View.set_whole]

/-- A memref owned at contents `X` is held at a buffer that reads `X`, -/
theorem owns_open (c : Dev nD) {sp : Space} {S : Shape} {e : EltTy} (M : Memref sig .tc sp S e) (q : PosShare TreeShare) (X : S.Idx → Elt F e) :
    (owns (c : Thread nD τ) M q X : sProp 𝕄) ⊢ iprop(∃ f : Bf (F := F) c M, ⌜M.view.read (Elt F) f = X⌝ ∗ held c M q f) := by
  unfold owns held; exact .rfl
/-- and the other way. -/
theorem owns_close (c : Dev nD) {sp : Space} {S : Shape} {e : EltTy} (M : Memref sig .tc sp S e) (q : PosShare TreeShare) (X : S.Idx → Elt F e)
    (f : Bf (F := F) c M) (h : M.view.read (Elt F) f = X) : (held c M q f : sProp 𝕄) ⊢ owns (c : Thread nD τ) M q X := by
  subst h; exact owns_intro (c : Thread nD τ) M q f

/-- `W0` as the region finds it. -/
abbrev w0v (c : Dev nD) : Bf (F := F) c hW0 := V m c main_arg3
/-- The product the first point stores. -/
def pOf (c : Dev nD) : Vec F S1024x4096 .f32 := pval (iblk m c 0 t0_0) (X0_2 m c t0_0)
/-- The output the second point stores. -/
def outOf (c : Dev nD) : Vec F S4096 .f32 :=
  oval (iblk m c 1 t0_1) (iblk m c 3 t0_1) (iblk m c 4 t0_1) (iblk m c 5 t0_1) (iblk m c 6 t0_1) (iblk m c 7 t0_1) (iblk m c 8 t0_1)
    (iblk m c 9 t0_1) (pOf m c) (w0v m c)

/-- The share of `W0` the kernel's own copies read with; the pipeline's window has the other half. -/
abbrev qR : PosShare TreeShare := fullShare.right
abbrev qL : PosShare TreeShare := fullShare.left

/-- Before the first point the kernel's buffers hold anything and both its semaphores are at zero. -/
def Phi0 (c : Dev nD) : sProp 𝕄 :=
  iprop(Pipeline.scopedRest (Ix := Unit) (Name := ℕ) (U := Pipeline.UD sig nD τ) (Lvl := ℕ) (Val := Elt F) spec0 c
      ∗ semVal ((c : Thread nD τ), SemLoc.dma 11) 0 ∗ semVal ((c : Thread nD τ), SemLoc.dma 12) 0 ∗ held c hW0 qR (w0v m c))
/-- Between the two the product is stored and the four copies are in flight. -/
def Phi1 (c : Dev nD) : sProp 𝕄 :=
  iprop(owns (c : Thread nD τ) sP fullShare (pOf m c) ∗ (∃ f, held c sC0 fullShare f) ∗ (∃ f, held c sW1 fullShare f)
      ∗ (∃ f, held c sW2 fullShare f) ∗ (∃ f, held c sW3 fullShare f)
      ∗ (∃ d, inFlight c qR (w0v m c) d ∗ held c (rows4 sW0) fullShare d) ∗ held c (rows4 hW0) qR (w0v m c)
      ∗ semVal ((c : Thread nD τ), SemLoc.dma 12) 0)
/-- After the second the buffers hold anything again and both semaphores are at zero. -/
def Phi2 (c : Dev nD) : sProp 𝕄 :=
  iprop(Pipeline.scopedRest (Ix := Unit) (Name := ℕ) (U := Pipeline.UD sig nD τ) (Lvl := ℕ) (Val := Elt F) spec0 c
      ∗ semVal ((c : Thread nD τ), SemLoc.dma 11) 0 ∗ semVal ((c : Thread nD τ), SemLoc.dma 12) 0)
/-- The three by the number of points done. -/
def Φn (c : Dev nD) : ℕ → sProp 𝕄
  | 0 => Phi0 m c
  | 1 => Phi1 m c
  | _ => Phi2 c

/-- What the body leaves in each window's staging buffer: an input's block; the output. -/
def afterOf (c : Dev nD) : (w : Fin cfg0.W) → Fin cfg0.N → (cfg0.win w).block.Idx → Elt F (cfg0.win w).elt
  | ⟨0, _⟩, t => iblk m c 0 t
  | ⟨1, _⟩, t => iblk m c 1 t
  | ⟨2, _⟩, t => X0_2 m c t
  | ⟨3, _⟩, t => iblk m c 3 t
  | ⟨4, _⟩, t => iblk m c 4 t
  | ⟨5, _⟩, t => iblk m c 5 t
  | ⟨6, _⟩, t => iblk m c 6 t
  | ⟨7, _⟩, t => iblk m c 7 t
  | ⟨8, _⟩, t => iblk m c 8 t
  | ⟨9, _⟩, t => iblk m c 9 t
  | ⟨10, _⟩, _ => outOf m c

/-- The proof data: each array at its entry contents, window 2's at half the share. -/
def dats (_ : Fin 1) (c : Dev nD) : Dat τ (Elt F) Unit ℕ (Pipeline.UD sig nD τ) ℕ cfg0 c where
  A w := V m c (Pipeline.arrRef spec0 w)
  after := afterOf m c
  Φ t := Φn m c t.val
  q w := if w = 2 then qL else fullShare
  owed _ := 0

/-- Each window's array starts as the region finds it. -/
theorem A_eq (c : Dev nD) (w : Fin cfg0.W) : (dats m 0 c).A w = V m c (Pipeline.arrRef spec0 w) := by
  dsimp only [dats]

/-- Input window 0's staging buffer holds its block when the body runs. -/
theorem bf0 (c : Dev nD) (t : Fin cfg0.N) (d) : (dats m 0 c).before 0 t d = iblk m c 0 t :=
  ((dats m 0 c).before_in_eq_fetched 0 rfl (fun _ => rfl) (fun _ _ _ => rfl)
      (fun t => by rw [show (dats m 0 c).after 0 t = iblk m c 0 t from rfl]; unfold Dat.blockOf iblk; rw [A_eq]; try rfl) t d).trans
    (by unfold Dat.fetched Dat.blockOf iblk; rw [A_eq]; try rfl)
/-- Input window 1's staging buffer holds its block when the body runs. -/
theorem bf1 (c : Dev nD) (t : Fin cfg0.N) (d) : (dats m 0 c).before 1 t d = iblk m c 1 t :=
  ((dats m 0 c).before_in_eq_fetched 1 rfl (fun _ => rfl) (fun _ _ _ => rfl)
      (fun t => by rw [show (dats m 0 c).after 1 t = iblk m c 1 t from rfl]; unfold Dat.blockOf iblk; rw [A_eq]; try rfl) t d).trans
    (by unfold Dat.fetched Dat.blockOf iblk; rw [A_eq]; try rfl)
/-- Input window 3's staging buffer holds its block when the body runs. -/
theorem bf3 (c : Dev nD) (t : Fin cfg0.N) (d) : (dats m 0 c).before 3 t d = iblk m c 3 t :=
  ((dats m 0 c).before_in_eq_fetched 3 rfl (fun _ => rfl) (fun _ _ _ => rfl)
      (fun t => by rw [show (dats m 0 c).after 3 t = iblk m c 3 t from rfl]; unfold Dat.blockOf iblk; rw [A_eq]; try rfl) t d).trans
    (by unfold Dat.fetched Dat.blockOf iblk; rw [A_eq]; try rfl)
/-- Input window 4's staging buffer holds its block when the body runs. -/
theorem bf4 (c : Dev nD) (t : Fin cfg0.N) (d) : (dats m 0 c).before 4 t d = iblk m c 4 t :=
  ((dats m 0 c).before_in_eq_fetched 4 rfl (fun _ => rfl) (fun _ _ _ => rfl)
      (fun t => by rw [show (dats m 0 c).after 4 t = iblk m c 4 t from rfl]; unfold Dat.blockOf iblk; rw [A_eq]; try rfl) t d).trans
    (by unfold Dat.fetched Dat.blockOf iblk; rw [A_eq]; try rfl)
/-- Input window 5's staging buffer holds its block when the body runs. -/
theorem bf5 (c : Dev nD) (t : Fin cfg0.N) (d) : (dats m 0 c).before 5 t d = iblk m c 5 t :=
  ((dats m 0 c).before_in_eq_fetched 5 rfl (fun _ => rfl) (fun _ _ _ => rfl)
      (fun t => by rw [show (dats m 0 c).after 5 t = iblk m c 5 t from rfl]; unfold Dat.blockOf iblk; rw [A_eq]; try rfl) t d).trans
    (by unfold Dat.fetched Dat.blockOf iblk; rw [A_eq]; try rfl)
/-- Input window 6's staging buffer holds its block when the body runs. -/
theorem bf6 (c : Dev nD) (t : Fin cfg0.N) (d) : (dats m 0 c).before 6 t d = iblk m c 6 t :=
  ((dats m 0 c).before_in_eq_fetched 6 rfl (fun _ => rfl) (fun _ _ _ => rfl)
      (fun t => by rw [show (dats m 0 c).after 6 t = iblk m c 6 t from rfl]; unfold Dat.blockOf iblk; rw [A_eq]; try rfl) t d).trans
    (by unfold Dat.fetched Dat.blockOf iblk; rw [A_eq]; try rfl)
/-- Input window 7's staging buffer holds its block when the body runs. -/
theorem bf7 (c : Dev nD) (t : Fin cfg0.N) (d) : (dats m 0 c).before 7 t d = iblk m c 7 t :=
  ((dats m 0 c).before_in_eq_fetched 7 rfl (fun _ => rfl) (fun _ _ _ => rfl)
      (fun t => by rw [show (dats m 0 c).after 7 t = iblk m c 7 t from rfl]; unfold Dat.blockOf iblk; rw [A_eq]; try rfl) t d).trans
    (by unfold Dat.fetched Dat.blockOf iblk; rw [A_eq]; try rfl)
/-- Input window 8's staging buffer holds its block when the body runs. -/
theorem bf8 (c : Dev nD) (t : Fin cfg0.N) (d) : (dats m 0 c).before 8 t d = iblk m c 8 t :=
  ((dats m 0 c).before_in_eq_fetched 8 rfl (fun _ => rfl) (fun _ _ _ => rfl)
      (fun t => by rw [show (dats m 0 c).after 8 t = iblk m c 8 t from rfl]; unfold Dat.blockOf iblk; rw [A_eq]; try rfl) t d).trans
    (by unfold Dat.fetched Dat.blockOf iblk; rw [A_eq]; try rfl)
/-- Input window 9's staging buffer holds its block when the body runs. -/
theorem bf9 (c : Dev nD) (t : Fin cfg0.N) (d) : (dats m 0 c).before 9 t d = iblk m c 9 t :=
  ((dats m 0 c).before_in_eq_fetched 9 rfl (fun _ => rfl) (fun _ _ _ => rfl)
      (fun t => by rw [show (dats m 0 c).after 9 t = iblk m c 9 t from rfl]; unfold Dat.blockOf iblk; rw [A_eq]; try rfl) t d).trans
    (by unfold Dat.fetched Dat.blockOf iblk; rw [A_eq]; try rfl)
/-- Input window 2's staging buffer holds its block, filled out, when the body runs. -/
theorem bf2 (c : Dev nD) (t : Fin cfg0.N) (d) : (dats m 0 c).before 2 t d = X0_2 m c t :=
  ((dats m 0 c).before_in_eq_fetched 2 rfl (fun _ => rfl)
      (fun t t' h => funext fun a => congrArg (fun n => Pipeline.Clip.of n ((cfg0.win 2).size a) (S3341x1024.size a)) (congrFun h a))
      (fun t => by rw [show (dats m 0 c).after 2 t = X0_2 m c t from rfl]; unfold X0_2; rw [Pipeline.Window.cut_fill]; unfold Dat.blockOf iblk; rw [A_eq]; try rfl) t d).trans
    (by unfold Dat.fetched X0_2; rw [fill0_2 t d dflt0_2]; unfold Dat.blockOf iblk; rw [A_eq]; try rfl)

end Cert.KernelIdeal.Hand

end
-- ==== Proof.KernelIdeal.Body.lean ====
/- Hand-written: the body obligation at the two grid points, and the launch. -/
module

public import proofs.«01_k».proof.Proof.KernelIdeal.Data

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- What the body's procedure is at a point of the grid. -/
theorem defs₀_row (t : Fin cfg0.N) : defs₀ (F := F) .tc cfg0.body (cfg0.bodyArgs t (cfg0.slots t)) = bodyAt0 t := by
  unfold defs₀; rw [Defs.onTc_tc]

/-- Which branch each point takes. -/
theorem first0 : Scalar.cmpi .ne (Scalar.extui (Scalar.cmpi .eq (BitVec.ofNat 32 (grid0.coords t0_0 0).val) 0#32) : BitVec 32) 0#32 = 1#1 := by decide
/-- The first point doesn't take the second branch, -/
theorem second0 : ¬ k0_cond2 (grid0.coords t0_0) = 1#1 := by decide
/-- the second doesn't take the first, -/
theorem first1 : ¬ Scalar.cmpi .ne (Scalar.extui (Scalar.cmpi .eq (BitVec.ofNat 32 (grid0.coords t0_1 0).val) 0#32) : BitVec 32) 0#32 = 1#1 := by decide
/-- and takes the second. -/
theorem second1 : k0_cond2 (grid0.coords t0_1) = 1#1 := by decide

/-- The body at point 0, from the windows' buffers one by one. -/
theorem sound_body0 (c : Dev nD) :
    iprop((dats m 0 c).Φ t0_0.castSucc ∗ (dats m 0 c).owesAt () t0_0.castSucc ∗ (∃ d, owns (c : Thread nD τ) ((cfg0.win 0).stage (cfg0.slots t0_0 0)) fullShare ((dats m 0 c).before 0 t0_0 d)) ∗ (∃ d, owns (c : Thread nD τ) ((cfg0.win 1).stage (cfg0.slots t0_0 1)) fullShare ((dats m 0 c).before 1 t0_0 d)) ∗ (∃ d, owns (c : Thread nD τ) ((cfg0.win 2).stage (cfg0.slots t0_0 2)) fullShare ((dats m 0 c).before 2 t0_0 d)) ∗ (∃ d, owns (c : Thread nD τ) ((cfg0.win 3).stage (cfg0.slots t0_0 3)) fullShare ((dats m 0 c).before 3 t0_0 d)) ∗ (∃ d, owns (c : Thread nD τ) ((cfg0.win 4).stage (cfg0.slots t0_0 4)) fullShare ((dats m 0 c).before 4 t0_0 d)) ∗ (∃ d, owns (c : Thread nD τ) ((cfg0.win 5).stage (cfg0.slots t0_0 5)) fullShare ((dats m 0 c).before 5 t0_0 d)) ∗ (∃ d, owns (c : Thread nD τ) ((cfg0.win 6).stage (cfg0.slots t0_0 6)) fullShare ((dats m 0 c).before 6 t0_0 d)) ∗ (∃ d, owns (c : Thread nD τ) ((cfg0.win 7).stage (cfg0.slots t0_0 7)) fullShare ((dats m 0 c).before 7 t0_0 d)) ∗ (∃ d, owns (c : Thread nD τ) ((cfg0.win 8).stage (cfg0.slots t0_0 8)) fullShare ((dats m 0 c).before 8 t0_0 d)) ∗ (∃ d, owns (c : Thread nD τ) ((cfg0.win 9).stage (cfg0.slots t0_0 9)) fullShare ((dats m 0 c).before 9 t0_0 d)) ∗ (∃ d, owns (c : Thread nD τ) ((cfg0.win 10).stage (cfg0.slots t0_0 10)) fullShare ((dats m 0 c).before 10 t0_0 d)))
      ⊢ wp frame (wpE (defs₀ (F := F)) Variants.none c none) Set.univ (bodyAt0 t0_0) (fun _ =>
        iprop((dats m 0 c).Φ t0_0.succ ∗ (dats m 0 c).owesAt () t0_0.succ ∗ owns (c : Thread nD τ) ((cfg0.win 0).stage (cfg0.slots t0_0 0)) fullShare (iblk m c 0 t0_0) ∗ owns (c : Thread nD τ) ((cfg0.win 1).stage (cfg0.slots t0_0 1)) fullShare (iblk m c 1 t0_0) ∗ owns (c : Thread nD τ) ((cfg0.win 2).stage (cfg0.slots t0_0 2)) fullShare (X0_2 m c t0_0) ∗ owns (c : Thread nD τ) ((cfg0.win 3).stage (cfg0.slots t0_0 3)) fullShare (iblk m c 3 t0_0) ∗ owns (c : Thread nD τ) ((cfg0.win 4).stage (cfg0.slots t0_0 4)) fullShare (iblk m c 4 t0_0) ∗ owns (c : Thread nD τ) ((cfg0.win 5).stage (cfg0.slots t0_0 5)) fullShare (iblk m c 5 t0_0) ∗ owns (c : Thread nD τ) ((cfg0.win 6).stage (cfg0.slots t0_0 6)) fullShare (iblk m c 6 t0_0) ∗ owns (c : Thread nD τ) ((cfg0.win 7).stage (cfg0.slots t0_0 7)) fullShare (iblk m c 7 t0_0) ∗ owns (c : Thread nD τ) ((cfg0.win 8).stage (cfg0.slots t0_0 8)) fullShare (iblk m c 8 t0_0) ∗ owns (c : Thread nD τ) ((cfg0.win 9).stage (cfg0.slots t0_0 9)) fullShare (iblk m c 9 t0_0) ∗ (∃ d, owns (c : Thread nD τ) ((cfg0.win 10).stage (cfg0.slots t0_0 10)) fullShare ((dats m 0 c).before 10 t0_0 d)))) := by
  rw [show (dats m 0 c).Φ t0_0.castSucc = Phi0 m c from rfl, show (dats m 0 c).Φ t0_0.succ = Phi1 m c from rfl]
  unfold Dat.owesAt Pipeline.owesWithin
  rw [show (dats m 0 c).owed t0_0.castSucc = 0 from rfl, show (dats m 0 c).owed t0_0.succ = 0 from rfl]
  simp only [bf0, bf1, bf2, bf3, bf4, bf5, bf6, bf7, bf8, bf9]
  unfold Phi0 Phi1
  rw [scopedRest0_eq]
  iintro ⟨⟨⟨⟨%fP, HP⟩, HC, HW1, HW2, HW3, ⟨%d, HS⟩⟩, Hq, Hs, HA⟩, ⟨%W, -, HW⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, H10⟩
  ihave H0 := owns_open c _ _ _ $$ H0
  ihave H2 := owns_open c _ _ _ $$ H2
  icases H0 with ⟨%f0, %h0, H0⟩
  icases H2 with ⟨%f2, %h2, H2⟩
  ihave HA : iprop(held c (rows0 hW0) qR (w0v m c) ∗ held c (rows1 hW0) qR (w0v m c) ∗ held c (rows2 hW0) qR (w0v m c)
      ∗ held c (rows3 hW0) qR (w0v m c) ∗ held c (rows4 hW0) qR (w0v m c)) $$ [HA]
  · rw [← held_rows c hW0]; iexact HA
  icases HA with ⟨HA0, HA1, HA2, HA3, HA4⟩
  ihave HS : iprop(held c (rows0 sW0) fullShare d ∗ held c (rows1 sW0) fullShare d ∗ held c (rows2 sW0) fullShare d
      ∗ held c (rows3 sW0) fullShare d ∗ held c (rows4 sW0) fullShare d) $$ [HS]
  · rw [← held_rows c sW0, held_whole]; iexact HS
  icases HS with ⟨HS0, HS1, HS2, HS3, HS4⟩
  iapply (run0 c (grid0.coords t0_0) first0 second0 _ _ _ _ _ _ _ _ _ _ _ _ _ _ _ _ _ _ _ _ _ _ qR f0 f2 (w0v m c) d fP W)
  isplitl [H0]; · iexact H0
  isplitl [H2]; · iexact H2
  isplitl [HP]; · rw [held_whole]; iexact HP
  isplitl [HA0]; · iexact HA0
  isplitl [HA1]; · iexact HA1
  isplitl [HA2]; · iexact HA2
  isplitl [HA3]; · iexact HA3
  isplitl [HS0]; · iexact HS0
  isplitl [HS1]; · iexact HS1
  isplitl [HS2]; · iexact HS2
  isplitl [HS3]; · iexact HS3
  isplitl [Hq]; · iexact Hq
  isplitl [HW]; · iexact HW
  iintro ⟨H0, H2, HP, HB, ⟨%W', HW⟩⟩
  ihave HP : owns (c : Thread nD τ) sP fullShare (pOf m c) $$ [HP]
  · unfold pOf; rw [← h0, ← h2]; iexact HP
  ihave H0 := owns_close c _ _ _ f0 h0 $$ H0
  ihave H2 := owns_close c _ _ _ f2 h2 $$ H2
  isplitl [HP HC HW1 HW2 HW3 HB HS4 HA4 Hs]
  · isplitl [HP]; · iexact HP
    isplitl [HC]; · icases HC with ⟨%f, HC⟩; iexists f; rw [held_whole]; iexact HC
    isplitl [HW1]; · icases HW1 with ⟨%f, HW1⟩; iexists f; rw [held_whole]; iexact HW1
    isplitl [HW2]; · icases HW2 with ⟨%f, HW2⟩; iexists f; rw [held_whole]; iexact HW2
    isplitl [HW3]; · icases HW3 with ⟨%f, HW3⟩; iexists f; rw [held_whole]; iexact HW3
    isplitl [HB HS4]
    · iexists d; isplitl [HB]; · iexact HB
      iexact HS4
    isplitl [HA4]; · iexact HA4
    iexact Hs
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body at point 1, from the windows' buffers one by one. -/
theorem sound_body1 (c : Dev nD) :
    iprop((dats m 0 c).Φ t0_1.castSucc ∗ (dats m 0 c).owesAt () t0_1.castSucc ∗ (∃ d, owns (c : Thread nD τ) ((cfg0.win 0).stage (cfg0.slots t0_1 0)) fullShare ((dats m 0 c).before 0 t0_1 d)) ∗ (∃ d, owns (c : Thread nD τ) ((cfg0.win 1).stage (cfg0.slots t0_1 1)) fullShare ((dats m 0 c).before 1 t0_1 d)) ∗ (∃ d, owns (c : Thread nD τ) ((cfg0.win 2).stage (cfg0.slots t0_1 2)) fullShare ((dats m 0 c).before 2 t0_1 d)) ∗ (∃ d, owns (c : Thread nD τ) ((cfg0.win 3).stage (cfg0.slots t0_1 3)) fullShare ((dats m 0 c).before 3 t0_1 d)) ∗ (∃ d, owns (c : Thread nD τ) ((cfg0.win 4).stage (cfg0.slots t0_1 4)) fullShare ((dats m 0 c).before 4 t0_1 d)) ∗ (∃ d, owns (c : Thread nD τ) ((cfg0.win 5).stage (cfg0.slots t0_1 5)) fullShare ((dats m 0 c).before 5 t0_1 d)) ∗ (∃ d, owns (c : Thread nD τ) ((cfg0.win 6).stage (cfg0.slots t0_1 6)) fullShare ((dats m 0 c).before 6 t0_1 d)) ∗ (∃ d, owns (c : Thread nD τ) ((cfg0.win 7).stage (cfg0.slots t0_1 7)) fullShare ((dats m 0 c).before 7 t0_1 d)) ∗ (∃ d, owns (c : Thread nD τ) ((cfg0.win 8).stage (cfg0.slots t0_1 8)) fullShare ((dats m 0 c).before 8 t0_1 d)) ∗ (∃ d, owns (c : Thread nD τ) ((cfg0.win 9).stage (cfg0.slots t0_1 9)) fullShare ((dats m 0 c).before 9 t0_1 d)) ∗ (∃ d, owns (c : Thread nD τ) ((cfg0.win 10).stage (cfg0.slots t0_1 10)) fullShare ((dats m 0 c).before 10 t0_1 d)))
      ⊢ wp frame (wpE (defs₀ (F := F)) Variants.none c none) Set.univ (bodyAt0 t0_1) (fun _ =>
        iprop((dats m 0 c).Φ t0_1.succ ∗ (dats m 0 c).owesAt () t0_1.succ ∗ owns (c : Thread nD τ) ((cfg0.win 0).stage (cfg0.slots t0_1 0)) fullShare (iblk m c 0 t0_1) ∗ owns (c : Thread nD τ) ((cfg0.win 1).stage (cfg0.slots t0_1 1)) fullShare (iblk m c 1 t0_1) ∗ owns (c : Thread nD τ) ((cfg0.win 2).stage (cfg0.slots t0_1 2)) fullShare (X0_2 m c t0_1) ∗ owns (c : Thread nD τ) ((cfg0.win 3).stage (cfg0.slots t0_1 3)) fullShare (iblk m c 3 t0_1) ∗ owns (c : Thread nD τ) ((cfg0.win 4).stage (cfg0.slots t0_1 4)) fullShare (iblk m c 4 t0_1) ∗ owns (c : Thread nD τ) ((cfg0.win 5).stage (cfg0.slots t0_1 5)) fullShare (iblk m c 5 t0_1) ∗ owns (c : Thread nD τ) ((cfg0.win 6).stage (cfg0.slots t0_1 6)) fullShare (iblk m c 6 t0_1) ∗ owns (c : Thread nD τ) ((cfg0.win 7).stage (cfg0.slots t0_1 7)) fullShare (iblk m c 7 t0_1) ∗ owns (c : Thread nD τ) ((cfg0.win 8).stage (cfg0.slots t0_1 8)) fullShare (iblk m c 8 t0_1) ∗ owns (c : Thread nD τ) ((cfg0.win 9).stage (cfg0.slots t0_1 9)) fullShare (iblk m c 9 t0_1) ∗ owns (c : Thread nD τ) ((cfg0.win 10).stage (cfg0.slots t0_1 10)) fullShare (outOf m c))) := by
  rw [show (dats m 0 c).Φ t0_1.castSucc = Phi1 m c from rfl, show (dats m 0 c).Φ t0_1.succ = Phi2 c from rfl]
  unfold Dat.owesAt Pipeline.owesWithin
  rw [show (dats m 0 c).owed t0_1.castSucc = 0 from rfl, show (dats m 0 c).owed t0_1.succ = 0 from rfl]
  simp only [bf0, bf1, bf2, bf3, bf4, bf5, bf6, bf7, bf8, bf9]
  unfold Phi1 Phi2
  rw [scopedRest0_eq]
  iintro ⟨⟨HP, ⟨%fC, HC⟩, ⟨%fW1, HW1⟩, ⟨%fW2, HW2⟩, ⟨%fW3, HW3⟩, ⟨%d, HB, HS4⟩, HA4, Hs⟩, ⟨%W, -, HW⟩, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩⟩
  ihave HP := owns_open c _ _ _ $$ HP
  icases HP with ⟨%fP, %hP, HP⟩
  ihave H1 := owns_open c _ _ _ $$ H1
  icases H1 with ⟨%f1, %h1, H1⟩
  ihave H3 := owns_open c _ _ _ $$ H3
  icases H3 with ⟨%f3, %h3, H3⟩
  ihave H4 := owns_open c _ _ _ $$ H4
  icases H4 with ⟨%f4, %h4, H4⟩
  ihave H5 := owns_open c _ _ _ $$ H5
  icases H5 with ⟨%f5, %h5, H5⟩
  ihave H6 := owns_open c _ _ _ $$ H6
  icases H6 with ⟨%f6, %h6, H6⟩
  ihave H7 := owns_open c _ _ _ $$ H7
  icases H7 with ⟨%f7, %h7, H7⟩
  ihave H8 := owns_open c _ _ _ $$ H8
  icases H8 with ⟨%f8, %h8, H8⟩
  ihave H9 := owns_open c _ _ _ $$ H9
  icases H9 with ⟨%f9, %h9, H9⟩
  ihave H10 := owns_open c _ _ _ $$ H10
  icases H10 with ⟨%f10, %h10, H10⟩
  iapply (run1 c (grid0.coords t0_1) first1 second1 _ _ _ _ _ _ _ _ _ _ _ _ _ _ _ _ _ _ _ _ _ _ qR f1 f3 f4 f5 f6 f7 f8 f9 f10 (w0v m c) d fP fC fW1 fW2 fW3 W)
  isplitl [H1]; · iexact H1
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HP]; · iexact HP
  isplitl [HC]; · iexact HC
  isplitl [HW1]; · iexact HW1
  isplitl [HW2]; · iexact HW2
  isplitl [HW3]; · iexact HW3
  isplitl [HB]; · iexact HB
  isplitl [HA4]; · iexact HA4
  isplitl [HS4]; · iexact HS4
  isplitl [Hs]; · iexact Hs
  isplitl [HW]; · iexact HW
  iintro ⟨H1, H3, H4, H5, H6, H7, H8, H9, H10, HP, ⟨%gC, HC⟩, ⟨%g1, HW1⟩, ⟨%g2, HW2⟩, ⟨%g3, HW3⟩, ⟨%gS, HS⟩, Hq, Hs, ⟨%W', HW⟩⟩
  ihave H10 : owns (c : Thread nD τ) ((cfg0.win 10).stage (cfg0.slots t0_1 10)) fullShare (outOf m c) $$ [H10]
  · unfold outOf; rw [← hP, ← h1, ← h3, ← h4, ← h5, ← h6, ← h7, ← h8, ← h9]; iexact H10
  ihave H1 := owns_close c _ _ _ f1 h1 $$ H1
  ihave H3 := owns_close c _ _ _ f3 h3 $$ H3
  ihave H4 := owns_close c _ _ _ f4 h4 $$ H4
  ihave H5 := owns_close c _ _ _ f5 h5 $$ H5
  ihave H6 := owns_close c _ _ _ f6 h6 $$ H6
  ihave H7 := owns_close c _ _ _ f7 h7 $$ H7
  ihave H8 := owns_close c _ _ _ f8 h8 $$ H8
  ihave H9 := owns_close c _ _ _ f9 h9 $$ H9
  isplitl [HP HC HW1 HW2 HW3 HS Hq Hs]
  · isplitr [Hq Hs]
    · isplitl [HP]; · iexists _; rw [← held_whole c cc0_scratch0]; iexact HP
      isplitl [HC]; · iexists _; rw [← held_whole c cc0_scratch1]; iexact HC
      isplitl [HW1]; · iexists _; rw [← held_whole c cc0_scratch2]; iexact HW1
      isplitl [HW2]; · iexists _; rw [← held_whole c cc0_scratch3]; iexact HW2
      isplitl [HW3]; · iexists _; rw [← held_whole c cc0_scratch4]; iexact HW3
      iexists _; rw [← held_whole c cc0_scratch5]; iexact HS
    isplitl [Hq] <;> iassumption
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation: at each of the two points. -/
theorem body_obligation (c : Dev nD) : BodyObligation (dats m 0 c) (defs₀ (F := F)) Variants.none () Set.univ := fun t => by
  rw [bigSep_W0, bigSep_W0, defs₀_row]
  rcases fin_N0 t with rfl | rfl
  · exact triple_restated (sound_body0 m c) rfl .rfl fun _ => .rfl
  · exact triple_restated (sound_body1 m c) rfl .rfl fun _ => .rfl

end Cert.KernelIdeal.Hand

end
-- ==== Proof.KernelIdeal.Run.lean ====
/- Hand-written: the launch, and what every final state holds. -/
module

public import proofs.«01_k».proof.Proof.KernelIdeal.Body
public import Idealize.ShloMosaic.Lib.Pipeline.Regions

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The pipeline's algebra is the left component of the proof's. -/
abbrev EP : Emb (UR sig nD τ) (MT nD τ sig Unit (Elt F) ℕ (Pipeline.UD sig nD τ) ℕ) := embL

/-- Core `c`'s buffers at launch. -/
abbrev V₀ (c : Dev nD) : Valuation τ sig (Elt F) := fun b => m (c, b)

/-- The unscoped buffers, which the host operations run within. -/
def hostRefs : Finset (DevRef τ sig) := (StableHlo.tcRefs τ sig).filter fun b => ¬ b.isScoped

omit [FloatOps F] in
/-- The unscoped buffers at a valuation are that set held at it. -/
theorem unscoped_held (c : Dev nD) (W : Valuation τ sig (Elt F)) :
    (unscopedBufs c (fun b => W b) : sProp 𝕄) = StableHlo.held (c : Thread nD τ) hostRefs W := by
  unfold unscopedBufs StableHlo.held hostRefs StableHlo.tcRefs
  rw [Finset.filter_map, bigSep_map]
  rfl

omit [FloatOps F] in
/-- A host operation touches unscoped buffers only. -/
theorem sub_hostRefs (op : HloOp τ sig (Elt F)) (h : op.bufs ⊆ StableHlo.tcRefs τ sig) : op.bufs ⊆ hostRefs := fun b hb =>
  Finset.mem_filter.mpr ⟨h hb, fun h' => Bool.false_ne_true ((op.no_scoped b hb).symm.trans h')⟩

/-- The kernel's own two semaphores. -/
abbrev osem : Fin 2 → SemLoc sig := fun | 0 => .dma 11 | 1 => .dma 12
/-- The kernel's own semaphores are none of the pipeline's. -/
theorem ownSemFacts : Pipeline.OwnSemFacts spec0 osem := by decide

omit [FloatOps F] in
/-- They at zero, listed. -/
theorem ownSems0_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 11) 0 ∗ semVal ((c : Thread nD τ), SemLoc.dma 12) 0) :=
  Pipeline.ownSems0_eq_of_list c osem [0, 1] (by decide) (by decide)

/-- The windows' arrays one by one: all at the full share but `W0`, at half of it. -/
theorem arrays_list (c : Dev nD) (G : (w : Fin cfg0.W) → Buf (Elt F) ((cfg0.win w).arr.view.loc (c.tc : Thread nD τ))) :
    ((dats m 0 c).arrays G : sProp 𝕄) = iprop((((c : Thread nD τ).loc main_v0) ↦{fullShare} G 0) ∗ (((c : Thread nD τ).loc main_arg2) ↦{fullShare} G 1) ∗ (((c : Thread nD τ).loc main_arg3) ↦{qL} G 2) ∗ (((c : Thread nD τ).loc main_v1) ↦{fullShare} G 3) ∗ (((c : Thread nD τ).loc main_arg5) ↦{fullShare} G 4) ∗ (((c : Thread nD τ).loc main_v2) ↦{fullShare} G 5) ∗ (((c : Thread nD τ).loc main_arg7) ↦{fullShare} G 6) ∗ (((c : Thread nD τ).loc main_v3) ↦{fullShare} G 7) ∗ (((c : Thread nD τ).loc main_v4) ↦{fullShare} G 8) ∗ (((c : Thread nD τ).loc main_v5) ↦{fullShare} G 9) ∗ (((c : Thread nD τ).loc main_v6) ↦{fullShare} G 10)) := by
  unfold Dat.arrays
  rw [bigSep_W0]
  simp only [← held_whole]
  rfl

/-- The launch element: the pipeline's, and no counter yet. -/
def u₀ : Pipeline.UD sig nD τ := (initOf (Pipeline.cells cfgs cellOf_inj) (Pipeline.launchToks cfgs cellOf_inj), 1)

/-- An array's contents after the run. -/
def finalA (c : Dev nD) (w : Fin cfg0.W) : Buf (Elt F) ((cfg0.win w).arr.view.loc (c : Thread nD τ)) := (dats m 0 c).arrAt w cfg0.N

abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What the core carries through the host operations. -/
abbrev R (c : Dev nD) : sProp 𝕄 := iprop(∃ W, owes (c : Thread nD τ) (0 : CellTallies nD τ sig Unit) W)

/-- The host segment: the six operations. -/
def seg0 : Pipeline.HostSeg (Name := ℕ) (U := Pipeline.UD sig nD τ) (pcfgs (F := F)) defs₀ Variants.none L lv :=
  Pipeline.HostSeg.ofOps _ _ _ _ _ hostRefs hostOps0 (fun op h => sub_hostRefs op ((List.forall_iff_forall_mem.mp hostOps0_sub) op h))
    (by intro _ h; (repeat (cases h with | head => rfl | tail _ h => ?_)); exact nomatch h) (V₀ m) R

/-- The arguments no window stages, as the region finds them. -/
abbrev bypass (c : Dev nD) : sProp 𝕄 := iprop((((c : Thread nD τ).loc main_arg0) ↦{fullShare} V m c main_arg0) ∗ (((c : Thread nD τ).loc main_arg1) ↦{fullShare} V m c main_arg1) ∗ (((c : Thread nD τ).loc main_arg4) ↦{fullShare} V m c main_arg4) ∗ (((c : Thread nD τ).loc main_arg6) ↦{fullShare} V m c main_arg6) ∗ (((c : Thread nD τ).loc main_arg8) ↦{fullShare} V m c main_arg8) ∗ (((c : Thread nD τ).loc main_arg9) ↦{fullShare} V m c main_arg9) ∗ (((c : Thread nD τ).loc main_arg10) ↦{fullShare} V m c main_arg10))

/-- What the region leaves for the end. -/
abbrev Tₙ (c : Dev nD) : sProp 𝕄 := iprop((dats m 0 c).arrays ((dats m 0 c).arrAt · cfg0.N) ∗ bypass m c)

omit [FloatOps F] in
/-- A buffer held whole is its two halves. -/
theorem halves (c : Dev nD) (b : Ref sig .tc) (f : Buf (Elt F) ((c : Thread nD τ).loc b)) :
    (((c : Thread nD τ).loc b) ↦{fullShare} f : sProp 𝕄) ⊢ iprop((((c : Thread nD τ).loc b) ↦{qL} f) ∗ (((c : Thread nD τ).loc b) ↦{qR} f)) :=
  (pointsTo_share (PosShare.mem_left_op_right fullShare)).1

set_option backward.isDefEq.respectTransparency.types false in
/-- The region: the windows' arrays into the pipeline, half of `W0` and the two semaphores to the kernel. -/
def reg0 : Pipeline.RegionSeg (pcfgs (F := F)) adm (dats m) () defs₀ Variants.none L lv 0 where
  win := launch0.win.to₀
  block_pos := launch0.block_pos
  stage_whole := launch0.stage_whole
  K := Fin 2
  osem := osem
  ho := ownSemFacts
  hbody c := (body_obligation m c).loose
  hwaits := Pipeline.hwaits_of_owed_zero _ _ _ _ L lv 0 fun _ _ => rfl
  pre c := iprop(StableHlo.held (c : Thread nD τ) hostRefs (StableHlo.after hostOps0 (V₀ m c)) ∗ R c)
  post c := iprop(Tₙ m c ∗ R c)
  X c := iprop(semVal ((c : Thread nD τ), SemLoc.dma 11) 0 ∗ semVal ((c : Thread nD τ), SemLoc.dma 12) 0 ∗ held c hW0 qR (w0v m c))
  Y _ := iprop(emp)
  Z c := bypass m c
  hentry c := by
    rw [show StableHlo.held (c : Thread nD τ) hostRefs (StableHlo.after hostOps0 (V₀ m c)) = unscopedBufs c (V m c) from (unscoped_held c _).symm,
      ownSems0_eq]
    have hsplit : (unscopedBufs c (V m c) : sProp 𝕄) ⊢ iprop(((((c : Thread nD τ).loc main_v0) ↦{fullShare} V m c main_v0) ∗ (((c : Thread nD τ).loc main_arg2) ↦{fullShare} V m c main_arg2) ∗ (((c : Thread nD τ).loc main_arg3) ↦{fullShare} V m c main_arg3) ∗ (((c : Thread nD τ).loc main_v1) ↦{fullShare} V m c main_v1) ∗ (((c : Thread nD τ).loc main_arg5) ↦{fullShare} V m c main_arg5) ∗ (((c : Thread nD τ).loc main_v2) ↦{fullShare} V m c main_v2) ∗ (((c : Thread nD τ).loc main_arg7) ↦{fullShare} V m c main_arg7) ∗ (((c : Thread nD τ).loc main_v3) ↦{fullShare} V m c main_v3) ∗ (((c : Thread nD τ).loc main_v4) ↦{fullShare} V m c main_v4) ∗ (((c : Thread nD τ).loc main_v5) ↦{fullShare} V m c main_v5) ∗ (((c : Thread nD τ).loc main_v6) ↦{fullShare} V m c main_v6)) ∗ bypass m c) := (Entails.of_eq (Pipeline.unscopedBufs_split (Ix := Unit) (Name := ℕ) (U := Pipeline.UD sig nD τ) (Lvl := ℕ) cfgs 0
      launch0.win.arr_unscoped launch0.win.arr_inj c (V m c))).trans
      (BIClass.sep_mono (Entails.of_eq (bigSep_W0 _)) (Entails.of_eq (unscopedRest0_eq c (V m c))))
    iintro ⟨⟨Hub, HO⟩, ⟨Hq, Hs⟩, -⟩
    ihave H := hsplit $$ Hub
    icases H with ⟨⟨A0, A1, A2, A3, A4, A5, A6, A7, A8, A9, A10⟩, Hr⟩
    ihave A2 := halves c main_arg3 _ $$ A2
    icases A2 with ⟨A2, AR⟩
    imodintro
    isplitl [A0 A1 A2 A3 A4 A5 A6 A7 A8 A9 A10]
    · rw [arrays_list]
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact A10
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hq Hs AR]
    · isplitl [Hq]; · iexact Hq
      isplitl [Hs]; · iexact Hs
      rw [held_whole]; iexact AR
    iexact Hr
  hin c := by
    rw [show (dats m 0 c).Φ 0 = Phi0 m c from rfl]; unfold Phi0
    iintro ⟨⟨Hq, Hs, AR⟩, -, Hr⟩
    isplitl [Hr]; · iexact Hr
    isplitl [Hq]; · iexact Hq
    isplitl [Hs] <;> iassumption
  hout c := by
    rw [ownSems0_eq, show (dats m 0 c).Φ (Fin.last cfg0.N) = Phi2 c from rfl]; unfold Phi2
    iintro ⟨Hr, Hq, Hs⟩
    isplitr; · iempintro
    isplitl [Hq Hs]
    · isplitl [Hq] <;> iassumption
    iexact Hr
  hexit c := by
    iintro ⟨Ha, HO, -, HZ⟩
    imodintro
    isplitr [HO]
    · isplitl [Ha] <;> iassumption
    · unfold Pipeline.Dat.owesAt Pipeline.owesWithin
      icases HO with ⟨%W, -, HO⟩; iexists W; iexact HO

/-- @main as the two segments. -/
abbrev segs : List (Pipeline.Seg (pcfgs (F := F)) adm (dats m) () defs₀ Variants.none L lv) := [.host (seg0 m), .region (reg0 m)]

/-- What every final state holds on core `c`: the result at what the library computes, every argument as launched. -/
abbrev Final (c : Dev nD) (s : MemSt nD τ sig (Elt F)) : Prop :=
  s.mem ((c : Thread nD τ).loc main_v6) = finalA m c 10
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)

set_option backward.isDefEq.respectTransparency.types false in
/-- From any memory with the counters at zero, every fair execution of @main ends, in a state as `Final` says with every
    counter at zero. -/
theorem run_main : θ_run defs (onTc (τ := τ) (main (F := F))) (s₀ m ρ) (fun r => (∀ c : Dev nD, Final m c r.2) ∧ r.2.sem = fun _ => 0) :=
  Pipeline.θ_run_regions_kit_sems (pcfgs (F := F)) adm (dats m) () cellOf_inj EP defs₀ Variants.none L lv m ρ main (segs m)
    (fun c Q => by rw [main_segs adm (dats m) () Variants.none L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) hostRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) hostRefs (V₀ m c) from unscoped_held c (V₀ m c)]
      iintro ⟨⟨Hh, -, HO, -, -, -⟩, -⟩
      imodintro
      isplitl [Hh]; · iexact Hh
      iexists ∅; iexact HO)
    (QY := fun c s => Final m c s)
    (hfin := fun c s' => by
      dsimp only [Tₙ, bypass]
      rw [arrays_list, V_main_arg0, V_main_arg1, V_main_arg4, V_main_arg6, V_main_arg8, V_main_arg9, V_main_arg10]
      iintro ⟨⟨⟨-, A1, A2, -, A4, -, A6, -, -, -, A10⟩, B0, B1, B4, B6, B8, B9, B10⟩, HSI⟩
      icombine HSI A1 gives %hA1
      icombine HSI A2 gives %hA2
      icombine HSI A4 gives %hA4
      icombine HSI A6 gives %hA6
      icombine HSI A10 gives %hA10
      icombine HSI B0 gives %hB0
      icombine HSI B1 gives %hB1
      icombine HSI B4 gives %hB4
      icombine HSI B6 gives %hB6
      icombine HSI B8 gives %hB8
      icombine HSI B9 gives %hB9
      icombine HSI B10 gives %hB10
      imodintro
      isplitr
      · ipureintro
        exact ⟨Buf.eq_of_forall_mem_univ hA10, Buf.eq_of_forall_mem_univ hB0, Buf.eq_of_forall_mem_univ hB1,
          (Buf.eq_of_forall_mem_univ hA1).trans (((dats m 0 c).arrAt_in 1 rfl _).trans (V_main_arg2 m c)),
          (Buf.eq_of_forall_mem_univ hA2).trans (((dats m 0 c).arrAt_in 2 rfl _).trans (V_main_arg3 m c)),
          Buf.eq_of_forall_mem_univ hB4,
          (Buf.eq_of_forall_mem_univ hA4).trans (((dats m 0 c).arrAt_in 4 rfl _).trans (V_main_arg5 m c)),
          Buf.eq_of_forall_mem_univ hB6,
          (Buf.eq_of_forall_mem_univ hA6).trans (((dats m 0 c).arrAt_in 6 rfl _).trans (V_main_arg7 m c)),
          Buf.eq_of_forall_mem_univ hB8, Buf.eq_of_forall_mem_univ hB9, Buf.eq_of_forall_mem_univ hB10⟩
      iexact HSI)
    (hQ := fun _ h hz => ⟨h, funext fun g => hz g (.inr (by revert g; decide))⟩)

end Cert.KernelIdeal.Hand

end
-- ==== Proof.KernelValue.lean ====
/- Hand-written: what the kernel's stored output is, entry by entry, over the extended reals. -/
module

public import proofs.«01_k».proof.Proof.KernelIdeal.Run
public import Idealize.ShloMosaic.Lib.Pointwise
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.SL.Sem

/-- Each of the 26 table rows lies within the tables. -/
theorem row_inb (t : Fin 26) : ∀ a, (![t.val, 0, 0] : Fin 3 → ℕ) a + S1x1x128.size a ≤ S26x1x128.size a := by
  revert t; decide

/-- Table `t`'s row as a piece of the concatenation. -/
def pieceOf (x2 : Vec Ideal S26x1x128 .f32) (t : Fin 26) : FVec Ideal S1x128 .f32 :=
  shapeCast S1x128 (row x2 t.val (row_inb t)) shapeCasts_S1x1x128_S1x128

/-- The piece's entries are the table's. -/
theorem pieceOf_apply (x2 : Vec Ideal S26x1x128 .f32) (t : Fin 26) (l : Fin 128) : pieceOf x2 t (ix2 0 l) = x2 (ix3 t 0 l) := by
  pointwise [pieceOf, row]

/-- Thirteen zeros, then the 26 rows. -/
def pieces (x2 : Vec Ideal S26x1x128 .f32) : List ((s : Shape) × (s.Idx → EReal)) :=
  ⟨S1x13, k0_pay3 (F := Ideal)⟩ :: List.ofFn fun t : Fin 26 => ⟨S1x128, pieceOf x2 t⟩

/-- They fit one row of 3341 entries. -/
theorem pieces_fit (x2 : Vec Ideal S26x1x128 .f32) : Shape.Concatenates ((pieces x2).map (·.1)) S1x3341 1 :=
  concatenates_S1x13_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x3341_d1

/-- The entries before the row of table `t` number `13 + 128 t`. -/
theorem pieces_before (x2 : Vec Ideal S26x1x128 .f32) (t : Fin 26) :
    (((((pieces x2).take (t.val + 1)).map (·.1)).map fun s => if h : s.rank = S1x3341.rank then s.size ((1 : Fin S1x3341.rank).cast h.symm) else 0).sum : ℕ)
      = 13 + 128 * t.val := by
  have h : (pieces x2).map (·.1) = S1x13 :: List.replicate 26 S1x128 := rfl
  rw [List.map_take, h, List.take_succ_cons, List.take_replicate, List.map_cons, List.map_replicate, List.sum_cons, List.sum_replicate,
    min_eq_left (by omega : t.val ≤ 26), smul_eq_mul, Nat.mul_comm t.val]
  rfl

/-- The padded embedding row. -/
def padded (x2 : Vec Ideal S26x1x128 .f32) : FVec Ideal S1x3341 .f32 := concatenate S1x3341 1 (pieces x2) (pieces_fit x2)

/-- Its first thirteen entries are zeros. -/
theorem padded_zero (x2 : Vec Ideal S26x1x128 .f32) (k : Fin 13) : padded x2 (ix2 0 ⟨k.val, by omega⟩) = 0 := by
  rw [padded, concatenate_apply_piece 1 (pieces x2) (pieces_fit x2) (ix2 0 ⟨k.val, by omega⟩) 0 (by simp [pieces]) S1x13 (k0_pay3 (F := Ideal)) rfl rfl 0 rfl
    (ix2 0 k) (by decide +revert) (Nat.zero_add _)]
  pointwise [k0_pay3]

/-- The entry `13 + 128 t + l` is the table `t`'s at `l`. -/
theorem padded_row (x2 : Vec Ideal S26x1x128 .f32) (t : Fin 26) (l : Fin 128) :
    padded x2 (ix2 0 ⟨13 + (128 * t.val + l.val), by omega⟩) = x2 (ix3 t 0 l) := by
  rw [padded, concatenate_apply_piece 1 (pieces x2) (pieces_fit x2) (ix2 0 ⟨13 + (128 * t.val + l.val), by omega⟩) (t.val + 1)
    (by simp [pieces]; omega) S1x128 (pieceOf x2 t) (by simp only [pieces, List.getElem_cons_succ, List.getElem_ofFn]) rfl (13 + 128 * t.val) (pieces_before x2 t)
    (ix2 0 l) (fun b hb => by fin_cases b; rfl; exact absurd rfl hb) (by rw [Nat.add_assoc]; rfl), pieceOf_apply]

/-- The kernel's product of the embeddings with `W0` is that of the padded row. -/
theorem eval_eq (x2 : Vec Ideal S26x1x128 .f32) (w : Vec Ideal S3341x1024 .f32) :
    eval x2 w = matmul (F := Ideal) (φ₂ := .f32) dot_S1x3341_S3341x1024_S1x1024_1_0_0_1_n_n none (padded x2) w (constant S1x1024 .f32 0x00000000#32) := rfl

/-- Entry `j` of that product: the 26 rows against the last 3328 rows of `W0`. -/
theorem eval_apply (x2 : Vec Ideal S26x1x128 .f32) (w : Vec Ideal S3341x1024 .f32) (j : Fin 1024) :
    eval x2 w (ix2 0 j) = ∑ k : Fin 3341, padded x2 (ix2 0 k) * w (ix2 k j) := by
  rw [eval_eq]; pointwise

/-- The first product: the numerical features against the first 13 rows of `W0`. -/
theorem pval_apply (x1 : Vec Ideal S13x4096 .f32) (x3 : Vec Ideal S16x1024 .f32) (i : Fin 1024) (b : Fin 4096) :
    pval x1 x3 (ix2 i b) = ∑ k : Fin 13, x3 (ix2 ⟨k.val, by omega⟩ i) * x1 (ix2 k b) := by
  pointwise [pval, k0_pay1]

/-- The output: three layers of products, biases and maxima on top of the first layer's two parts. -/
theorem oval_apply (x2 : Vec Ideal S26x1x128 .f32) (x4 : Vec Ideal S1x1024 .f32) (x5 : Vec Ideal S1024x512 .f32) (x6 : Vec Ideal S1x512 .f32)
    (x7 : Vec Ideal S512x256 .f32) (x8 : Vec Ideal S1x256 .f32) (x9 : Vec Ideal S1x256 .f32) (x10 : Vec Ideal S1x1 .f32)
    (p : Vec Ideal S1024x4096 .f32) (w : Vec Ideal S3341x1024 .f32) (b : Fin 4096) :
    oval x2 x4 x5 x6 x7 x8 x9 x10 p w (ix1 b)
      = (∑ k : Fin 256, x9 (ix2 0 k) * max ((∑ j : Fin 512, x7 (ix2 j k) * max ((∑ i : Fin 1024, x5 (ix2 i j)
          * max (p (ix2 i b) + (eval x2 w (ix2 0 i) + x4 (ix2 0 i))) 0) + x6 (ix2 0 j)) 0) + x8 (ix2 0 k)) 0) + x10 (ix2 0 0) := by
  pointwise [oval, k0_pay2, k0_pay20, k0_pay21, k0_pay22, k0_pay23, k0_pay24, k0_pay25, k0_pay26]

end Cert.KernelIdeal.Hand

end
-- ==== Proof.KernelOut.lean ====
/- Hand-written: the kernel's output array, entry by entry, from the launch's arguments. -/
module

public import proofs.«01_k».proof.Proof.KernelValue
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable (m : (ℓ : Loc nD τ sig) → Buf (Elt Ideal) ℓ) (c : Dev nD)

/-- The output array is what the last point leaves. -/
theorem finalA_out : finalA m c 10 = outOf m c := by
  refine (dats m 0 c).arrAt_eq_of_after_last 10 t0_1 (by decide +kernel) _ fun j => ?_
  blk_simp
  rfl

/-- Before the launch the host transposes the numerical features, -/
theorem V_x : V m c main_v0 = (transpose S13x4096 [1, 0] (m ((c : Thread nD τ).loc main_arg0)) transposes_S4096x13_S13x4096_1_0 : FVec Ideal S13x4096 .f32) := by
  unfold_abbrev_sides; after_results
/-- makes the biases rows, -/
theorem V_b0 : V m c main_v1 = (shapeCast S1x1024 (m ((c : Thread nD τ).loc main_arg4)) shapeCasts_S1024_S1x1024 : FVec Ideal S1x1024 .f32) := by
  unfold_abbrev_sides; after_results; rfl
/-- the second layer's too, -/
theorem V_b1 : V m c main_v2 = (shapeCast S1x512 (m ((c : Thread nD τ).loc main_arg6)) shapeCasts_S512_S1x512 : FVec Ideal S1x512 .f32) := by
  unfold_abbrev_sides; after_results; rfl
/-- the third's, -/
theorem V_b2 : V m c main_v3 = (shapeCast S1x256 (m ((c : Thread nD τ).loc main_arg8)) shapeCasts_S256_S1x256 : FVec Ideal S1x256 .f32) := by
  unfold_abbrev_sides; after_results; rfl
/-- the last's, -/
theorem V_b3 : V m c main_v5 = (shapeCast S1x1 (m ((c : Thread nD τ).loc main_arg10)) shapeCasts_S1_S1x1 : FVec Ideal S1x1 .f32) := by
  unfold_abbrev_sides; after_results; rfl
/-- and transposes the last layer. -/
theorem V_w3 : V m c main_v4 = (transpose S1x256 [1, 0] (m ((c : Thread nD τ).loc main_arg9)) transposes_S256x1_S1x256_1_0 : FVec Ideal S1x256 .f32) := by
  unfold_abbrev_sides; after_results

/-- Every window's block is its first. -/
theorem at0 : (∀ a, win0_0.index t0_0 a = 0) ∧ (∀ a, win0_2.index t0_0 a = 0) ∧ (∀ a, win0_1.index t0_1 a = 0) ∧ (∀ a, win0_3.index t0_1 a = 0)
    ∧ (∀ a, win0_4.index t0_1 a = 0) ∧ (∀ a, win0_5.index t0_1 a = 0) ∧ (∀ a, win0_6.index t0_1 a = 0) ∧ (∀ a, win0_7.index t0_1 a = 0)
    ∧ (∀ a, win0_8.index t0_1 a = 0) ∧ (∀ a, win0_9.index t0_1 a = 0) := by decide +kernel

/-- The transposed numerical features. -/
theorem in_x (k : Fin 13) (b : Fin 4096) : iblk m c 0 t0_0 (ix2 k b) = m ((c : Thread nD τ).loc main_arg0) (ix2 b k) := by
  have h : iblk m c 0 t0_0 (ix2 k b) = V m c main_v0 (ix2 k b) := by blk_ext [iblk, at0]
  rw [h, V_x]; pointwise
/-- The tables. -/
theorem in_emb (t : Fin 26) (l : Fin 128) : iblk m c 1 t0_1 (ix3 t 0 l) = m ((c : Thread nD τ).loc main_arg2) (ix3 t 0 l) := by
  blk_ext [iblk, V_main_arg2, at0]
/-- The window of the first layer's first rows. -/
theorem in_w0 (k : Fin 16) (i : Fin 1024) : X0_2 m c t0_0 (ix2 k i) = m ((c : Thread nD τ).loc main_arg3) (ix2 ⟨k.val, by omega⟩ i) := by
  unfold X0_2 Pipeline.Window.fill
  rw [dif_pos (moved0_2 t0_0 _)]
  blk_ext [iblk, V_main_arg3, at0]
/-- The first bias. -/
theorem in_b0 (i : Fin 1024) : iblk m c 3 t0_1 (ix2 0 i) = m ((c : Thread nD τ).loc main_arg4) (ix1 i) := by
  have h : iblk m c 3 t0_1 (ix2 0 i) = V m c main_v1 (ix2 0 i) := by blk_ext [iblk, at0]
  rw [h, V_b0]; pointwise
/-- The second layer, -/
theorem in_w1 (i : Fin 1024) (j : Fin 512) : iblk m c 4 t0_1 (ix2 i j) = m ((c : Thread nD τ).loc main_arg5) (ix2 i j) := by
  blk_ext [iblk, V_main_arg5, at0]
/-- its bias, -/
theorem in_b1 (i : Fin 512) : iblk m c 5 t0_1 (ix2 0 i) = m ((c : Thread nD τ).loc main_arg6) (ix1 i) := by
  have h : iblk m c 5 t0_1 (ix2 0 i) = V m c main_v2 (ix2 0 i) := by blk_ext [iblk, at0]
  rw [h, V_b1]; pointwise
/-- the third layer, -/
theorem in_w2 (i : Fin 512) (j : Fin 256) : iblk m c 6 t0_1 (ix2 i j) = m ((c : Thread nD τ).loc main_arg7) (ix2 i j) := by
  blk_ext [iblk, V_main_arg7, at0]
/-- its bias, -/
theorem in_b2 (i : Fin 256) : iblk m c 7 t0_1 (ix2 0 i) = m ((c : Thread nD τ).loc main_arg8) (ix1 i) := by
  have h : iblk m c 7 t0_1 (ix2 0 i) = V m c main_v3 (ix2 0 i) := by blk_ext [iblk, at0]
  rw [h, V_b2]; pointwise
/-- the last layer, transposed, -/
theorem in_w3 (k : Fin 256) : iblk m c 8 t0_1 (ix2 0 k) = m ((c : Thread nD τ).loc main_arg9) (ix2 k 0) := by
  have h : iblk m c 8 t0_1 (ix2 0 k) = V m c main_v4 (ix2 0 k) := by blk_ext [iblk, at0]
  rw [h, V_w3]; pointwise
/-- and its bias. -/
theorem in_b3 : iblk m c 9 t0_1 (ix2 0 0) = m ((c : Thread nD τ).loc main_arg10) (ix1 0) := by
  have h : iblk m c 9 t0_1 (ix2 0 0) = V m c main_v5 (ix2 0 0) := by blk_ext [iblk, at0]
  rw [h, V_b3]; pointwise

end Cert.KernelIdeal.Hand

end
-- ==== Proof.RefValue.lean ====
/- Hand-written: what the reference's result is, entry by entry, over the extended reals. -/
module

public import proofs.«01_k».proof.Proof.Gen.ReferenceIdeal.Run
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The indices with the negative ones wrapped, a column per table. -/
def wrapped (a1 : IVec S4096x26 32) : IVec S26x4096x1 32 :=
  broadcastInDim S26x4096x1 ![0, 1] bcast_S26x4096_S26x4096x1_0_1 (transpose S26x4096 [1, 0] (select (cmpi .slt a1 (broadcastInDim S4096x26 ![] bcast_S_S4096x26 (constantI S_ 32 0#32))) (addi a1 (broadcastInDim S4096x26 ![] bcast_S_S4096x26 (constantI S_ 32 1#32))) a1) transposes_S4096x26_S26x4096_1_0)

/-- Whether an index lies in its table. -/
def inRange (a1 : IVec S4096x26 32) : IVec S26x4096 1 :=
  Host.reduce IntOp.andi (andi (cmpi .sge (wrapped a1) (broadcastInDim S26x4096x1 ![] bcast_S_S26x4096x1 (constantI S_ 32 0#32))) (cmpi .sle (wrapped a1) (broadcastInDim S26x4096x1 ![0, 1, 2] bcast_S1x1x1_S26x4096x1_0_1_2 (broadcastInDim S1x1x1 ![2] bcast_S1_S1x1x1_2 (constantI S1 32 0#32))))) (constantI S_ 1 1#1) reducesTo_S26x4096x1_S26x4096_d2 h_S_

/-- The table rows that the indices select, table by table. -/
def taken (a1 : IVec S4096x26 32) (a2 : FVec Ideal S26x1x128 .f32) : FVec Ideal S26x4096x128 .f32 :=
  select (broadcastInDim S26x4096x128 ![0, 1] bcast_S26x4096_S26x4096x128_0_1 (inRange a1)) (Host.gather gather_S26x1x128_S26x4096x1_S26x4096x128_2_1_0_0_1_2_11128 a2 (wrapped a1)) (broadcastInDim S26x4096x128 ![] bcast_S_S26x4096x128 (constant S_ .f32 0x7FC00000#32))

/-- The network's input: the numerical features, then the selected rows. -/
def features (a0 : FVec Ideal S4096x13 .f32) (a1 : IVec S4096x26 32) (a2 : FVec Ideal S26x1x128 .f32) : FVec Ideal S4096x3341 .f32 :=
  concatenate S4096x3341 1 [⟨S4096x13, a0⟩, ⟨S4096x3328, (shapeCast S4096x3328 (transpose S4096x26x128 [1, 0, 2] (taken a1 a2) transposes_S26x4096x128_S4096x26x128_1_0_2) shapeCasts_S4096x26x128_S4096x3328)⟩] concatenates_S4096x13_S4096x3328_S4096x3341_d1

/-- The reference's result as a function of its arguments. -/
def refOut (a0 : FVec Ideal S4096x13 .f32) (a1 : IVec S4096x26 32) (a2 : FVec Ideal S26x1x128 .f32) (a3 : FVec Ideal S3341x1024 .f32)
    (a4 : FVec Ideal S1024 .f32) (a5 : FVec Ideal S1024x512 .f32) (a6 : FVec Ideal S512 .f32) (a7 : FVec Ideal S512x256 .f32) (a8 : FVec Ideal S256 .f32)
    (a9 : FVec Ideal S256x1 .f32) (a10 : FVec Ideal S1 .f32) : FVec Ideal S4096 .f32 :=
  shapeCast S4096 (addf (Host.dotGeneral dot_S4096x256_S256x1_S4096x1_1_0_0_1_n_n none (maximumf (addf (Host.dotGeneral dot_S4096x512_S512x256_S4096x256_1_0_0_1_n_n none (maximumf (addf (Host.dotGeneral dot_S4096x1024_S1024x512_S4096x512_1_0_0_1_n_n none (maximumf (addf (Host.dotGeneral dot_S4096x3341_S3341x1024_S4096x1024_1_0_0_1_n_n none (features a0 a1 a2) a3) (broadcastInDim S4096x1024 ![0, 1] bcast_S1x1024_S4096x1024_0_1 (broadcastInDim S1x1024 ![1] bcast_S1024_S1x1024_1 a4))) (broadcastInDim S4096x1024 ![] bcast_S_S4096x1024 (constant S_ .f32 0x00000000#32))) a5) (broadcastInDim S4096x512 ![0, 1] bcast_S1x512_S4096x512_0_1 (broadcastInDim S1x512 ![1] bcast_S512_S1x512_1 a6))) (broadcastInDim S4096x512 ![] bcast_S_S4096x512 (constant S_ .f32 0x00000000#32))) a7) (broadcastInDim S4096x256 ![0, 1] bcast_S1x256_S4096x256_0_1 (broadcastInDim S1x256 ![1] bcast_S256_S1x256_1 a8))) (broadcastInDim S4096x256 ![] bcast_S_S4096x256 (constant S_ .f32 0x00000000#32))) a9) (broadcastInDim S4096x1 ![0, 1] bcast_S1x1_S4096x1_0_1 (broadcastInDim S1x1 ![1] bcast_S1_S1x1_1 a10))) shapeCasts_S4096x1_S4096

/-- An index of zero stays zero. -/
theorem wrapped_zero : wrapped (fun _ => 0#32) = fun _ => 0#32 := by
  funext j; pointwise [wrapped]; rfl

/-- It lies in its table. -/
theorem inRange_zero : inRange (fun _ => 0#32) = fun _ => 1#1 := by
  funext j
  unfold inRange
  rw [wrapped_zero, Host.reduce_eq_fold]
  refine (Finset.fold_congr (g := fun _ => 1#1) fun i _ => ?_).trans ?_
  · pointwise; rfl
  · rw [Finset.fold_const]
    · split <;> rfl
    · rfl

/-- The gather reads table `t` at its one row, whatever the indices. -/
theorem gather_at (idx : IVec S26x4096x1 32) (t : Fin 26) (b : Fin 4096) (l : Fin 128) :
    gather_S26x1x128_S26x4096x1_S26x4096x128_2_1_0_0_1_2_11128.operandIdx (ix3 t b l) idx = ix3 t 0 l := by
  have b0 : (⟨0, by decide⟩ : Fin S26x1x128.rank) ∈ gather_S26x1x128_S26x4096x1_S26x4096x128_2_1_0_0_1_2_11128.operandBatchingDims := by decide
  have k0 : (⟨0, by decide⟩ : Fin S26x1x128.rank) ∉ gather_S26x1x128_S26x4096x1_S26x4096x128_2_1_0_0_1_2_11128.sKept := by decide
  have b2 : (⟨2, by decide⟩ : Fin S26x1x128.rank) ∉ gather_S26x1x128_S26x4096x1_S26x4096x128_2_1_0_0_1_2_11128.operandBatchingDims := by decide
  have k2 : (⟨2, by decide⟩ : Fin S26x1x128.rank) ∈ gather_S26x1x128_S26x4096x1_S26x4096x128_2_1_0_0_1_2_11128.sKept := by decide
  have s2 : (⟨2, by decide⟩ : Fin S26x1x128.rank) ∉ gather_S26x1x128_S26x4096x1_S26x4096x128_2_1_0_0_1_2_11128.startIndexMap := by decide
  funext a
  apply Fin.ext
  match a with
  | ⟨0, h⟩ =>
    refine (congrArg₂ (· + ·) (congrArg₂ (· + ·) (GatherDims.start_batching _ _ _ _ b0) rfl) (GatherDims.offCoord_eq_zero _ _ _ k0)).trans ?_
    rw [Nat.zero_add, Nat.add_zero]
    unfold GatherDims.batchCoord
    rw [dif_pos b0]
    rfl
  | ⟨1, h⟩ =>
    exact Nat.lt_one_iff.mp (gather_S26x1x128_S26x4096x1_S26x4096x128_2_1_0_0_1_2_11128.operandIdx (ix3 t b l) idx ⟨1, h⟩).isLt
  | ⟨2, h⟩ =>
    refine (congrArg₂ (· + ·) (congrArg₂ (· + ·) (dif_neg s2) (GatherDims.batchCoord_eq_zero _ _ _ b2)) rfl).trans ?_
    rw [Nat.zero_add]
    unfold GatherDims.offCoord
    rw [dif_pos k2]
    rfl

/-- So the row that it selects is the table's only one. -/
theorem taken_zero (a2 : FVec Ideal S26x1x128 .f32) (t : Fin 26) (b : Fin 4096) (l : Fin 128) :
    taken (fun _ => 0#32) a2 (ix3 t b l) = a2 (ix3 t 0 l) := by
  unfold taken
  rw [inRange_zero]
  have h : select (broadcastInDim S26x4096x128 ![0, 1] bcast_S26x4096_S26x4096x128_0_1 (fun _ => 1#1 : IVec S26x4096 1))
      (Host.gather gather_S26x1x128_S26x4096x1_S26x4096x128_2_1_0_0_1_2_11128 a2 (wrapped fun _ => 0#32))
      (broadcastInDim S26x4096x128 ![] bcast_S_S26x4096x128 (constant S_ .f32 0x7FC00000#32)) (ix3 t b l)
      = Host.gather gather_S26x1x128_S26x4096x1_S26x4096x128_2_1_0_0_1_2_11128 a2 (wrapped fun _ => 0#32) (ix3 t b l) := rfl
  refine Eq.trans h (congrArg a2 (gather_at _ t b l))

/-- The first thirteen features are the numerical ones. -/
theorem features_num (a0 : FVec Ideal S4096x13 .f32) (a1 : IVec S4096x26 32) (a2 : FVec Ideal S26x1x128 .f32) (b : Fin 4096) (k : Fin 13) :
    features a0 a1 a2 (ix2 b ⟨k.val, by omega⟩) = a0 (ix2 b k) := by
  pointwise [features]

/-- The feature `13 + 128 t + l` is entry `l` of the row selected in table `t`. -/
theorem features_row (a0 : FVec Ideal S4096x13 .f32) (a1 : IVec S4096x26 32) (a2 : FVec Ideal S26x1x128 .f32) (b : Fin 4096) (t : Fin 26) (l : Fin 128) :
    features a0 a1 a2 (ix2 b ⟨13 + (128 * t.val + l.val), by omega⟩) = taken a1 a2 (ix3 t b l) := by
  pointwise [features]

/-- The result: three layers with a maximum, then one without. -/
theorem refOut_apply (a0 : FVec Ideal S4096x13 .f32) (a1 : IVec S4096x26 32) (a2 : FVec Ideal S26x1x128 .f32) (a3 : FVec Ideal S3341x1024 .f32)
    (a4 : FVec Ideal S1024 .f32) (a5 : FVec Ideal S1024x512 .f32) (a6 : FVec Ideal S512 .f32) (a7 : FVec Ideal S512x256 .f32) (a8 : FVec Ideal S256 .f32)
    (a9 : FVec Ideal S256x1 .f32) (a10 : FVec Ideal S1 .f32) (b : Fin 4096) :
    refOut a0 a1 a2 a3 a4 a5 a6 a7 a8 a9 a10 (ix1 b)
      = (∑ k : Fin 256, max ((∑ j : Fin 512, max ((∑ i : Fin 1024, max ((∑ f : Fin 3341, features a0 a1 a2 (ix2 b f) * a3 (ix2 f i)) + a4 (ix1 i)) 0
          * a5 (ix2 i j)) + a6 (ix1 j)) 0 * a7 (ix2 j k)) + a8 (ix1 k)) 0 * a9 (ix2 k 0)) + a10 (ix1 0) := by
  pointwise [refOut]

/-- The reference's run ends with its result at `refOut` of its arguments and the arguments as they were. -/
theorem run_refOut (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun r h c => ?_) (Cert.ReferenceIdeal.Value.run m ρ)
  refine ⟨(h c).1.trans ?_, (h c).2⟩
  unfold refOut features taken inRange wrapped
  rfl

end Cert.ReferenceIdeal.Hand

end
-- ==== Proof.Equal.lean ====
/- Hand-written: the kernel's output and the reference's are the same extended reals. -/
module

public import proofs.«01_k».proof.Proof.KernelOut
public import proofs.«01_k».proof.Proof.RefValue
public import proofs.«01_k».proof.Proof.Gen.Pre_indices_zero
public import proofs.«01_k».proof.Defs
public import Idealize.ShloMosaic.Lib.WordCmp

@[expose] public section

set_option maxRecDepth 16384

noncomputable section

namespace Cert.Proof

open Idealize.ShloMosaic Idealize.ShloMosaic.TcCoe Idealize.SL.Sem
open Cert.KernelIdeal (S4096x13 S26x1x128 S3341x1024)

/-- A sum over the features is the sum over the numerical ones and the sum over the tables' entries. -/
theorem sum_features (g : Fin 3341 → EReal) :
    ∑ f : Fin 3341, g f = (∑ k : Fin 13, g ⟨k.val, by omega⟩) + ∑ r : Fin 3328, g ⟨13 + r.val, by omega⟩ :=
  Fin.sum_univ_add (a := 13) (b := 3328) g

/-- Entry `r` of the padded row is an entry of a table, -/
theorem padded_tail (x2 : FVec Ideal S26x1x128 .f32) (r : Fin 3328) :
    KernelIdeal.Hand.padded x2 (ix2 0 ⟨13 + r.val, by omega⟩) = x2 (ix3 (⟨r.val / 128, by omega⟩ : Fin 26) 0 (⟨r.val % 128, by omega⟩ : Fin 128)) := by
  have h := KernelIdeal.Hand.padded_row x2 ⟨r.val / 128, by omega⟩ ⟨r.val % 128, by omega⟩
  simp only [Nat.div_add_mod] at h
  exact h

/-- and so is that feature of every sample. -/
theorem features_tail (a0 : FVec Ideal S4096x13 .f32) (a2 : FVec Ideal S26x1x128 .f32) (b : Fin 4096) (r : Fin 3328) :
    ReferenceIdeal.Hand.features a0 (fun _ => 0#32) a2 (ix2 b ⟨13 + r.val, by omega⟩)
      = a2 (ix3 (⟨r.val / 128, by omega⟩ : Fin 26) 0 (⟨r.val % 128, by omega⟩ : Fin 128)) := by
  have h := ReferenceIdeal.Hand.features_row a0 (fun _ => 0#32) a2 b ⟨r.val / 128, by omega⟩ ⟨r.val % 128, by omega⟩
  rw [ReferenceIdeal.Hand.taken_zero] at h
  simp only [Nat.div_add_mod] at h
  exact h

/-- The padded row's product with the first layer leaves out the numerical features' rows. -/
theorem padded_sum (x2 : FVec Ideal S26x1x128 .f32) (w : FVec Ideal S3341x1024 .f32) (i : Fin 1024) :
    ∑ f : Fin 3341, KernelIdeal.Hand.padded x2 (ix2 0 f) * w (ix2 f i)
      = ∑ r : Fin 3328, x2 (ix3 (⟨r.val / 128, by omega⟩ : Fin 26) 0 (⟨r.val % 128, by omega⟩ : Fin 128)) * w (ix2 ⟨13 + r.val, by omega⟩ i) := by
  rw [sum_features]
  simp only [KernelIdeal.Hand.padded_zero, padded_tail, zero_mul, Finset.sum_const_zero, zero_add]

/-- The features' product with the first layer is the numerical ones' part and the tables' part. -/
theorem features_sum (a0 : FVec Ideal S4096x13 .f32) (a2 : FVec Ideal S26x1x128 .f32) (w : FVec Ideal S3341x1024 .f32) (b : Fin 4096) (i : Fin 1024) :
    ∑ f : Fin 3341, ReferenceIdeal.Hand.features a0 (fun _ => 0#32) a2 (ix2 b f) * w (ix2 f i)
      = (∑ k : Fin 13, a0 (ix2 b k) * w (ix2 ⟨k.val, by omega⟩ i))
        + ∑ r : Fin 3328, a2 (ix3 (⟨r.val / 128, by omega⟩ : Fin 26) 0 (⟨r.val % 128, by omega⟩ : Fin 128)) * w (ix2 ⟨13 + r.val, by omega⟩ i) := by
  rw [sum_features]
  simp only [ReferenceIdeal.Hand.features_num, features_tail]

/-- The kernel's first layer, its two parts added, is the reference's before the bias, with the bias. -/
theorem first_layer (m : (ℓ : Loc KernelIdeal.nD KernelIdeal.τ KernelIdeal.sig) → Buf (Elt Ideal) ℓ) (c : Dev KernelIdeal.nD) (b : Fin 4096) (i : Fin 1024) :
    KernelIdeal.Hand.pOf m c (ix2 i b)
        + (KernelIdeal.Hand.eval (KernelIdeal.Gen.iblk m c 1 KernelIdeal.Gen.t0_1) (KernelIdeal.Hand.w0v m c) (ix2 0 i)
          + KernelIdeal.Gen.iblk m c 3 KernelIdeal.Gen.t0_1 (ix2 0 i))
      = (∑ f : Fin 3341, ReferenceIdeal.Hand.features (m ((c.tc : Thread KernelIdeal.nD KernelIdeal.τ).loc KernelIdeal.main_arg0)) (fun _ => 0#32) (m ((c.tc : Thread KernelIdeal.nD KernelIdeal.τ).loc KernelIdeal.main_arg2)) (ix2 b f) * (m ((c.tc : Thread KernelIdeal.nD KernelIdeal.τ).loc KernelIdeal.main_arg3)) (ix2 f i)) + (m ((c.tc : Thread KernelIdeal.nD KernelIdeal.τ).loc KernelIdeal.main_arg4)) (ix1 i) := by
  rw [features_sum, KernelIdeal.Hand.eval_apply, padded_sum, KernelIdeal.Hand.in_b0, ← add_assoc]
  unfold KernelIdeal.Hand.pOf
  rw [KernelIdeal.Hand.pval_apply]
  refine congrArg₂ (· + ·) (congrArg₂ (· + ·) (Finset.sum_congr rfl fun k _ => ?_) (Finset.sum_congr rfl fun r _ => ?_)) rfl
  · rw [KernelIdeal.Hand.in_x, mul_comm]
    exact congrArg _ (KernelIdeal.Hand.in_w0 m c ⟨k.val, by omega⟩ i)
  · rw [KernelIdeal.Hand.in_emb]
    unfold KernelIdeal.Hand.w0v
    rw [KernelIdeal.Gen.V_main_arg3]

/-- The kernel's output is the reference's result where every index is zero. -/
theorem out_eq (m : (ℓ : Loc KernelIdeal.nD KernelIdeal.τ KernelIdeal.sig) → Buf (Elt Ideal) ℓ) (c : Dev KernelIdeal.nD) :
    KernelIdeal.Hand.finalA m c 10 = ReferenceIdeal.Hand.refOut (m ((c.tc : Thread KernelIdeal.nD KernelIdeal.τ).loc KernelIdeal.main_arg0)) (fun _ => 0#32) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg6)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) (m ((c.tc : Thread KernelIdeal.nD KernelIdeal.τ).loc KernelIdeal.main_arg10)) := by
  rw [KernelIdeal.Hand.finalA_out]
  funext j
  obtain ⟨b, rfl⟩ : ∃ b : Fin 4096, j = ix1 b := ⟨j 0, by funext a; match a with | ⟨0, _⟩ => rfl⟩
  rw [ReferenceIdeal.Hand.refOut_apply]
  unfold KernelIdeal.Hand.outOf
  rw [KernelIdeal.Hand.oval_apply]
  simp only [KernelIdeal.Hand.in_w1, KernelIdeal.Hand.in_b1, KernelIdeal.Hand.in_w2, KernelIdeal.Hand.in_b2, KernelIdeal.Hand.in_w3,
    KernelIdeal.Hand.in_b3]
  refine congrArg₂ (· + ·) (Finset.sum_congr rfl fun k _ => ?_) rfl
  refine (mul_comm (G := EReal) _ _).trans (congrArg₂ (· * ·) (congrArg₂ max (congrArg₂ (· + ·) (Finset.sum_congr rfl fun l _ => ?_) rfl) rfl) rfl)
  refine (mul_comm (G := EReal) _ _).trans (congrArg₂ (· * ·) (congrArg₂ max (congrArg₂ (· + ·) (Finset.sum_congr rfl fun i _ => ?_) rfl) rfl) rfl)
  exact (mul_comm (G := EReal) _ _).trans (congrArg₂ (· * ·) (congrArg₂ max (first_layer m c b i) rfl) rfl)

/-- The precondition says that every index is zero. -/
theorem indices_eq (m : (ℓ : Loc KernelIdeal.nD KernelIdeal.τ KernelIdeal.sig) → Buf (Elt Ideal) ℓ)
    (h : letI := Cert.Pre_indices_zero.Gen.facts; Cert.Pre_KernelIdeal_indices_zero m) (c : Dev KernelIdeal.nD) :
    (m ((c.tc : Thread KernelIdeal.nD KernelIdeal.τ).loc KernelIdeal.main_arg1)) = fun _ => 0#32 := by
  funext j
  have hj := congrFun (h c) j
  have he : IntOp.cmpi .eq ((m ((c.tc : Thread KernelIdeal.nD KernelIdeal.τ).loc KernelIdeal.main_arg1)) j) 0#32 = 1#1 := hj
  rw [WordCmp.cmpi_eq_eq] at he
  by_contra hne
  rw [decide_eq_false hne] at he
  exact absurd he (by decide)

/-- From memories that agree on the arguments, every index zero, the two programs end with the same result. -/
theorem algebraic : letI := Cert.Pre_indices_zero.Gen.facts; letI := Cert.KernelIdeal.Gen.facts; letI := Cert.ReferenceIdeal.Gen.facts;
    Cert.algebraic_KernelIdeal_ReferenceIdeal_pre_indices_zero := by
  intro m g m' g' hpre hag
  refine ⟨fun c => KernelIdeal.Hand.finalA m c 10, ?_, ?_⟩
  · exact (θ_run _ _ _).mono (fun r h c => h.1 c) (KernelIdeal.Hand.run_main m g)
  · refine (θ_run _ _ _).mono (fun r h c => ⟨(h c).1.trans ?_, (h c).2⟩) (Cert.ReferenceIdeal.Hand.run_refOut m' g')
    obtain ⟨h0, h1, h2, h3, h4, h5, h6, h7, h8, h9, h10⟩ := hag c
    rw [indices_eq m hpre c] at h1
    refine Eq.trans ?_ (out_eq m c).symm
    rw [h0, h1, h2, h3, h4, h5, h6, h7, h8, h9, h10]
    rfl

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_indices_zero
public import proofs.«01_k».proof.Proof.Equal
public import proofs.«01_k».proof.Proof.Kernel.Run
public import proofs.«01_k».proof.Proof.KernelIdeal.Run
public import Idealize.ShloMosaic.Lib.Quiescent

@[expose] public section

noncomputable section

namespace Cert.Proof

open Idealize.ShloMosaic Idealize.SL.Sem

/-- The kernel runs without fault, leaves its arguments and ends with every counter at zero. -/
theorem frame_p : Cert.quiescent_Kernel := fun m g _ =>
  (θ_run Cert.Kernel.defs _ _).mono (fun _ h => ⟨fun c => (h.1 c).2, h.2⟩) (Cert.Kernel.Hand.run_main m g)

/-- So does the kernel over the extended reals. -/
theorem frame_pi : Cert.quiescent_KernelIdeal := fun m g _ =>
  (θ_run Cert.KernelIdeal.defs _ _).mono (fun _ h => ⟨fun c => (h.1 c).2, h.2⟩) (Cert.KernelIdeal.Hand.run_main m g)

/-- So does the reference over the extended reals; it declares no semaphore. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- The kernel's frame at the inputs of the value claim. -/
theorem frame_pi_pre : Cert.quiescent_KernelIdeal_pre_indices_zero := fun m g _ => frame_pi m g trivial

/-- The reference's frame at the inputs of the value claim. -/
theorem frame_ri_pre : Cert.quiescent_ReferenceIdeal_pre_indices_zero := fun m g _ => frame_ri m g trivial

/-- All the claims together. -/
theorem claim : Cert.Claim :=
  ⟨Cert.Kernel.Gen.facts, Cert.KernelIdeal.Gen.facts, Cert.ReferenceIdeal.Gen.facts, Cert.Pre_indices_zero.Gen.facts,
    frame_p, frame_pi, frame_pi_pre, frame_ri, frame_ri_pre, trivial, algebraic⟩

end Cert.Proof

end
